-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S50000x256 : Shape := ⟨2, ![50000, 256]⟩
abbrev S50000 : Shape := ⟨1, ![50000]⟩
abbrev S256 : Shape := ⟨1, ![256]⟩
abbrev S_ : Shape := ⟨0, ![]⟩
abbrev S1x256 : Shape := ⟨2, ![1, 256]⟩
abbrev S50000x1 : Shape := ⟨2, ![50000, 1]⟩

class Facts : Prop where
  bcast_S_S50000 : S_.BroadcastsInDim S50000 (![] : Fin 0 → Fin S50000.rank)
  bcast_S_S50000x256 : S_.BroadcastsInDim S50000x256 (![] : Fin 0 → Fin S50000x256.rank)
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)

variable [Facts]

def fn {F : FTy → Type} [FloatOps F] (main_arg0 : FVec F S50000x256 .f32) (main_arg1 : IVec S50000 32) (main_arg2 : FVec F S256 .f32) (main_arg3 : FVec F S256 .f32) (main_arg4 : FVec F S256 .f32) : IVec S50000x256 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 64#32
  let main_v2 : IVec S50000 32 := broadcastInDim S50000 ![] bcast_S_S50000 main_c_0
  let main_v3 : IVec S50000 1 := cmpi .slt main_arg1 main_v2
  let main_v4 : IVec S50000 1 := andi main_v1 main_v3
  let main_v5 : FVec F S50000x256 .f32 := Host.absf main_arg0
  let main_cst : FVec F S_ .f32 := constant S_ .f32 0x7F800000#32
  let main_v6 : FVec F S50000x256 .f32 := broadcastInDim S50000x256 ![] bcast_S_S50000x256 main_cst
  let main_v7 : IVec S50000x256 1 := cmpf .olt main_v5 main_v6
  let main_v8 : FVec F S256 .f32 := Host.absf main_arg3
  let main_cst_1 : FVec F S_ .f32 := constant S_ .f32 0x7F800000#32
  let main_v9 : FVec F S256 .f32 := broadcastInDim S256 ![] bcast_S_S256 main_cst_1
  let main_v10 : IVec S256 1 := cmpf .olt main_v8 main_v9
  let main_v11 : IVec S1x256 1 := broadcastInDim S1x256 ![1] bcast_S256_S1x256_1 main_v10
  let main_v12 : IVec S50000x256 1 := broadcastInDim S50000x256 ![0, 1] bcast_S1x256_S50000x256_0_1 main_v11
  let main_v13 : IVec S50000x256 1 := andi main_v7 main_v12
  let main_v14 : IVec S50000x1 1 := broadcastInDim S50000x1 ![0] bcast_S50000_S50000x1_0 main_v4
  let main_v15 : IVec S50000x256 1 := broadcastInDim S50000x256 ![0, 1] bcast_S50000x1_S50000x256_0_1 main_v14
  let main_v16 : IVec S50000x256 1 := andi main_v13 main_v15
  main_v16
-- ==== Kernel.lean ====
abbrev S50000x256 : Shape := ⟨2, ![50000, 256]⟩
abbrev S50000 : Shape := ⟨1, ![50000]⟩
abbrev S256 : Shape := ⟨1, ![256]⟩
abbrev S10x1x5000 : Shape := ⟨3, ![10, 1, 5000]⟩
abbrev S1x256 : Shape := ⟨2, ![1, 256]⟩
abbrev S5000x256 : Shape := ⟨2, ![5000, 256]⟩
abbrev S1x1x5000 : Shape := ⟨3, ![1, 1, 5000]⟩
abbrev S10x5000x256 : Shape := ⟨3, ![10, 5000, 256]⟩
abbrev S10x5000x64 : Shape := ⟨3, ![10, 5000, 64]⟩
abbrev S64x256 : Shape := ⟨2, ![64, 256]⟩
abbrev S1x64 : Shape := ⟨2, ![1, 64]⟩
abbrev S64x512 : Shape := ⟨2, ![64, 512]⟩
abbrev S5000 : Shape := ⟨1, ![5000]⟩
abbrev S5000x64 : Shape := ⟨2, ![5000, 64]⟩
abbrev S5000x1 : Shape := ⟨2, ![5000, 1]⟩
abbrev S1x5000x64 : Shape := ⟨3, ![1, 5000, 64]⟩
abbrev S1x5000x256 : Shape := ⟨3, ![1, 5000, 256]⟩
abbrev S64 : Shape := ⟨1, ![64]⟩
abbrev S64x1 : Shape := ⟨2, ![64, 1]⟩
abbrev S5000x512 : Shape := ⟨2, ![5000, 512]⟩

abbrev nBuf : Space → Nat
  | .hbm => 10
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S10x1x5000, .i32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S1x1x5000, .i32⟩
  | .local _ .vmem, ⟨3, _⟩ => ⟨S1x1x5000, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S10x5000x256, .bf16⟩
  | .local _ .vmem, ⟨10, _⟩ => ⟨S10x5000x64, .bf16⟩
  | .local _ .vmem, ⟨11, _⟩ => ⟨S64x256, .f32⟩
  | .local _ .vmem, ⟨12, _⟩ => ⟨S64x256, .f32⟩
  | .local _ .vmem, ⟨13, _⟩ => ⟨S1x64, .f32⟩
  | .local _ .vmem, ⟨14, _⟩ => ⟨S64x512, .bf16⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 10], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v15 : Index := Scalar.indexCast arg1
  let c0_4 : Index := 0#32
  let c0_5 : Index := 0#32
  ![v15.toNat, 0, 0]
def k0_off2 (i : grid0.Coords) : Fin 3 → Nat :=
  let arg1 : BitVec 32 := BitVec.ofNat 32 (i 1).val
  let v21 : Index := Scalar.indexCast arg1
  let c0_8 : Index := 0#32
  let c0_9 : Index := 0#32
  ![v21.toNat, 0, 0]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off3 (i : grid0.Coords) : Fin 3 → Nat :=
  let arg1 : BitVec 32 := BitVec.ofNat 32 (i 1).val
  let v9 : Index := Scalar.indexCast arg1
  let c0 : Index := 0#32
  let c0_4 : Index := 0#32
  ![v9.toNat, 0, 0]
def k0_off4 (i : grid0.Coords) : Fin 3 → Nat :=
  let arg1 : BitVec 32 := BitVec.ofNat 32 (i 1).val
  let v14 : Index := Scalar.indexCast arg1
  let c0_7 : Index := 0#32
  let c0_8 : Index := 0#32
  ![v14.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S50000x256 : Shape := ⟨2, ![50000, 256]⟩
abbrev S50000 : Shape := ⟨1, ![50000]⟩
abbrev S256 : Shape := ⟨1, ![256]⟩
abbrev S_ : Shape := ⟨0, ![]⟩
abbrev S64 : Shape := ⟨1, ![64]⟩
abbrev S50000x1 : Shape := ⟨2, ![50000, 1]⟩
abbrev S64x1 : Shape := ⟨2, ![64, 1]⟩
abbrev S64x256 : Shape := ⟨2, ![64, 256]⟩
abbrev S1x256 : Shape := ⟨2, ![1, 256]⟩

abbrev nBuf : Space → Nat
  | .hbm => 61
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S50000, .f32⟩
  | .hbm, ⟨7, _⟩ => ⟨S_, .f32⟩
  | .hbm, ⟨8, _⟩ => ⟨S64, .f32⟩
  | .hbm, ⟨9, _⟩ => ⟨S50000x1, .i32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64x1, .f32⟩
  | .hbm, ⟨15, _⟩ => ⟨S_, .f32⟩
  | .hbm, ⟨16, _⟩ => ⟨S64x256, .f32⟩
  | .hbm, ⟨17, _⟩ => ⟨S50000x1, .i32⟩
  | .hbm, ⟨18, _⟩ => ⟨S64x256, .f32⟩
  | .hbm, ⟨19, _⟩ => ⟨S64x256, .f32⟩
  | .hbm, ⟨20, _⟩ => ⟨S64x256, .f32⟩
  | .hbm, ⟨21, _⟩ => ⟨S_, .i32⟩
  | .hbm, ⟨22, _⟩ => ⟨S50000, .i32⟩
  | .hbm, ⟨23, _⟩ => ⟨S50000, .i1⟩
  | .hbm, ⟨24, _⟩ => ⟨S_, .i32⟩
  | .hbm, ⟨25, _⟩ => ⟨S50000, .i32⟩
  | .hbm, ⟨26, _⟩ => ⟨S50000, .i32⟩
  | .hbm, ⟨27, _⟩ => ⟨S50000, .i32⟩
  | .hbm, ⟨28, _⟩ => ⟨S50000x1, .i32⟩
  | .hbm, ⟨29, _⟩ => ⟨S50000x256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S64x256, .f32⟩
  | .hbm, ⟨37, _⟩ => ⟨S50000x1, .i32⟩
  | .hbm, ⟨38, _⟩ => ⟨S64x256, .f32⟩
  | .hbm, ⟨39, _⟩ => ⟨S64x256, .f32⟩
  | .hbm, ⟨40, _⟩ => ⟨S64x256, .f32⟩
  | .hbm, ⟨41, _⟩ => ⟨S_, .f32⟩
  | .hbm, ⟨42, _⟩ => ⟨S64x256, .f32⟩
  | .hbm, ⟨43, _⟩ => ⟨S64x256, .f32⟩
  | .hbm, ⟨44, _⟩ => ⟨S1x256, .f32⟩
  | .hbm, ⟨45, _⟩ => ⟨S50000x256, .f32⟩
  | .hbm, ⟨46, _⟩ => ⟨S50000x256, .f32⟩
  | .hbm, ⟨47, _⟩ => ⟨S_, .i32⟩
  | .hbm, ⟨48, _⟩ => ⟨S50000, .i32⟩
  | .hbm, ⟨49, _⟩ => ⟨S50000, .i1⟩
  | .hbm, ⟨50, _⟩ => ⟨S_, .i32⟩
  | .hbm, ⟨51, _⟩ => ⟨S50000, .i32⟩
  | .hbm, ⟨52, _⟩ => ⟨S50000, .i32⟩
  | .hbm, ⟨53, _⟩ => ⟨S50000, .i32⟩
  | .hbm, ⟨54, _⟩ => ⟨S50000x1, .i32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proof.Kernel.Setup.lean ====
/- What the runs of the kernel's body are stated over: the conditions of its branches as facts about the grid point, the
   buffers it is called with, and the region's invariant with the six scratch buffers named one by one. -/
module

public import proofs.«01_k».proof.Proof.Gen.KernelIdeal.Frame
public import proofs.«01_k».proof.Proof.Gen.KernelIdeal.Skeleton

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The branches -/

/-- The grid's coordinates at point `t`: the phase `t / 10` and the block `t % 10`. -/
theorem coords_0 (t : Fin cfg0.N) : (grid0.coords t 0).val = t.val / 10 := by
  have ht : t.val < 20 := Nat.lt_of_lt_of_eq t.isLt N_0
  have e : (grid0.coords t 0).val = t.val / 10 % 2 := Pipeline.Grid.coords_val t 0 (by decide) rfl
  omega

/-- The second grid coordinate of a point: its number within the phase. -/
theorem coords_1 (t : Fin cfg0.N) : (grid0.coords t 1).val = t.val % 10 := by
  have e : (grid0.coords t 1).val = t.val / 1 % 10 := Pipeline.Grid.coords_val t 1 (by decide) rfl
  omega

/-- The first block of a phase, and the others, as the body tests for them. -/
abbrev firstBlock (i : grid0.Coords) : Prop := (Scalar.cmpi .ne (Scalar.extui (Scalar.cmpi .eq (BitVec.ofNat 32 (i 1).val) 0#32)) 0#32) = 1#1
abbrev laterBlock (i : grid0.Coords) : Prop := (Scalar.cmpi .ne (Scalar.extui (Scalar.cmpi .ne (BitVec.ofNat 32 (i 1).val) 0#32)) 0#32) = 1#1

/-- Points 0 to 9 are the accumulation phase. -/
theorem phase_0 (t : Fin cfg0.N) : k0_cond1 (grid0.coords t) = 1#1 ↔ t.val < 10 := by
  have ht : t.val < 20 := Nat.lt_of_lt_of_eq t.isLt N_0
  simp only [k0_cond1, coords_0]
  word_cmp

/-- Points 10 to 19 are the normalization phase. -/
theorem phase_1 (t : Fin cfg0.N) : k0_cond4 (grid0.coords t) = 1#1 ↔ 10 ≤ t.val := by
  have ht : t.val < 20 := Nat.lt_of_lt_of_eq t.isLt N_0
  simp only [k0_cond4, coords_0]
  word_cmp

/-- The branch for the first block is taken at the first point of a phase. -/
theorem firstBlock_iff (t : Fin cfg0.N) : firstBlock (grid0.coords t) ↔ t.val % 10 = 0 := by
  have ht : t.val < 20 := Nat.lt_of_lt_of_eq t.isLt N_0
  simp only [firstBlock, coords_1]
  word_cmp

/-- The branch for a later block is taken at every other point of a phase. -/
theorem laterBlock_iff (t : Fin cfg0.N) : laterBlock (grid0.coords t) ↔ 1 ≤ t.val % 10 := by
  have ht : t.val < 20 := Nat.lt_of_lt_of_eq t.isLt N_0
  simp only [laterBlock, coords_1]
  word_cmp

/-! ## The buffers -/

/-- Each window's current staging buffer at point `t`, and that it is a whole buffer. -/
abbrev ms0_0 (t : Fin cfg0.N) : Memref sig .tc .vmem S5000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x5000 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x256 .f32 := win0_5.stage (cfg0.slots t 5)
abbrev hs0_5 (t : Fin cfg0.N) : (ms0_5 t).IsWhole := hstage0_5 ((cfg0.slots t 5).cast nbuf0_5)
/-- The six scratch buffers: the rows, their one-hot rows, the sums, the sums of squares, the counts, the table. -/
abbrev scM0_0 : Memref sig .tc .vmem S10x5000x256 .bf16 := Memref.whole cc0_scratch0
abbrev scM0_1 : Memref sig .tc .vmem S10x5000x64 .bf16 := Memref.whole cc0_scratch1
abbrev scM0_2 : Memref sig .tc .vmem S64x256 .f32 := Memref.whole cc0_scratch2
abbrev scM0_3 : Memref sig .tc .vmem S64x256 .f32 := Memref.whole cc0_scratch3
abbrev scM0_4 : Memref sig .tc .vmem S1x64 .f32 := Memref.whole cc0_scratch4
abbrev scM0_5 : Memref sig .tc .vmem S64x512 .bf16 := Memref.whole cc0_scratch5

/-- What the launch hands the region: each scratch buffer at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Norm

end
-- ==== Proof.Kernel.Runs.lean ====
/- The kernel's body, run once in each of the four situations a grid point can be in: the first and the later points of
   the accumulation phase, the first and the later points of the normalization phase. Each theorem takes the buffers the
   body touches at given contents and says exactly what the body leaves in them. -/
module

public import proofs.«01_k».proof.Proof.Kernel.Setup
public import Idealize.ShloMosaic.Lib.VecWindow

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- A load of a whole buffer held at `X` reads `X`. -/
theorem load_whole {sp : Space} {s : Shape} {e : EltTy} {m : Memref sig .tc sp s e} (h : m.IsWhole) (X : s.Idx → Elt F e)
    {off : Fin s.rank → ℕ} (inb : ∀ a, off a + s.size a ≤ s.size a) :
    m.view.readAt (Elt F) (Rect.unit off s.size inb).toLoadRect (h.unread X) = X := by
  rw [View.readAt_full, h.read_unread]

/-- A load of a box of a whole buffer held at `X` reads that window of `X`. -/
theorem load_window {sp : Space} {s : Shape} {e : EltTy} {m : Memref sig .tc sp s e} (h : m.IsWhole) (X : s.Idx → Elt F e)
    {off size : Fin s.rank → ℕ} (inb : ∀ a, off a + size a ≤ s.size a) :
    m.view.readAt (Elt F) (Rect.unit off size inb).toLoadRect (h.unread X) = VecWindow.window X off size inb := by
  rw [View.readAt_unit _ _ inb rfl inb, h.read_unread]

/-- A store of a box into a whole buffer held at `X` leaves `X` with the box put there. -/
theorem store_put {sp : Space} {s : Shape} {e : EltTy} {m : Memref sig .tc sp s e} (h : m.IsWhole) (X : s.Idx → Elt F e)
    {off size : Fin s.rank → ℕ} (inb : ∀ a, off a + size a ≤ s.size a) (w : (Rect.unit off size inb).shape.Idx → Elt F e) :
    m.view.read (Elt F) (m.view.writes (Elt F) (h.unread X) [⟨Rect.unit off size inb, w⟩]) = VecWindow.put X off size w := by
  rw [View.read_writes_cons_put _ _ inb w [] rfl, View.writes_nil, h.read_unread]

/-- Two halves put side by side into a 64 by 512 buffer hide what was in it before. -/
theorem put_halves {α : Type} (X Y : S64x512.Idx → α) (A B : S64x256.Idx → α) :
    VecWindow.put (VecWindow.put X ![0, 0] S64x256.size A) ![0, 256] S64x256.size B
      = VecWindow.put (VecWindow.put Y ![0, 0] S64x256.size A) ![0, 256] S64x256.size B := by
  funext y
  unfold VecWindow.put
  by_cases hR : ∀ a, (![0, 256] : Fin 2 → ℕ) a ≤ (y a).val ∧ (y a).val < (![0, 256] : Fin 2 → ℕ) a + S64x256.size a
  · rw [dif_pos hR, dif_pos hR]
  · have hL : ∀ a, (![0, 0] : Fin 2 → ℕ) a ≤ (y a).val ∧ (y a).val < (![0, 0] : Fin 2 → ℕ) a + S64x256.size a := by
      have h0 : (y 0).val < 64 := (y 0).isLt
      have h1 : (y 1).val < 512 := (y 1).isLt
      simp only [Fin.forall_fin_two] at hR ⊢
      simp only [Matrix.cons_val_zero, Matrix.cons_val_one] at hR ⊢
      omega
    rw [dif_neg hR, dif_neg hR, dif_pos hL, dif_pos hL]

variable (c : Dev nD) (i : grid0.Coords)
  (arg2 : Memref sig .tc .vmem S5000x256 .f32) (harg2 : arg2.IsWhole) (arg3 : Memref sig .tc .vmem S1x1x5000 .i32) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S1x256 .f32) (harg6 : arg6.IsWhole) (arg7 : Memref sig .tc .vmem S5000x256 .f32) (harg7 : arg7.IsWhole)
  (arg8 : Memref sig .tc .vmem S10x5000x256 .bf16) (harg8 : arg8.IsWhole) (arg9 : Memref sig .tc .vmem S10x5000x64 .bf16) (harg9 : arg9.IsWhole)
  (arg10 : Memref sig .tc .vmem S64x256 .f32) (harg10 : arg10.IsWhole) (arg11 : Memref sig .tc .vmem S64x256 .f32) (harg11 : arg11.IsWhole)
  (arg12 : Memref sig .tc .vmem S1x64 .f32) (harg12 : arg12.IsWhole) (arg13 : Memref sig .tc .vmem S64x512 .bf16) (harg13 : arg13.IsWhole)
  (x0 : Vec F S5000x256 .f32) (x1 : Vec F S1x1x5000 .i32) (x2 x3 x4 : Vec F S1x256 .f32)
  (d8 : Vec F S10x5000x256 .bf16) (d9 : Vec F S10x5000x64 .bf16) (d10 d11 : Vec F S64x256 .f32) (d12 : Vec F S1x64 .f32)
  (d13 : Vec F S64x512 .bf16)

/-- The stored rows after a point of the accumulation phase: the point's block at its slot, the other slots as before. -/
def rowsPut : Vec F S10x5000x256 .bf16 := VecWindow.put d8 (k0_off2 i) S1x5000x256.size (k0_pay4 x0)

/-- The stored one-hot rows after such a point. -/
def hotPut : Vec F S10x5000x64 .bf16 := VecWindow.put d9 (k0_off1 i) S1x5000x64.size (k0_pay2 x1)

/-- The table the first point of the normalization phase stores: the scales in the left half, the shifts in the right. -/
def table : Vec F S64x512 .bf16 :=
  VecWindow.put (VecWindow.put (constant S64x512 .bf16 0x0000#16) ![0, 0] S64x256.size (k0_pay20 d12 d10 d11 x2 x3)) ![0, 256] S64x256.size
    (k0_pay14 (k0_pay19 d12 d10 d11 x2 x3) (k0_pay21 x4) (k0_pay22 d12 d10 x2))

/-- The block a point of the normalization phase writes out. -/
def outBlock (h : k0_cond4 i = 1#1) : Vec F S5000x256 .f32 :=
  k0_pay15 (VecWindow.window d9 (k0_off3 i) S1x5000x64.size (k0_off3_inb i h)) d13 (VecWindow.window d8 (k0_off4 i) S1x5000x256.size (k0_off4_inb i h))

set_option maxHeartbeats 1200000 in
/-- The first point: the block and its one-hot rows are stored, the three sums are started. -/
theorem run_first (hc0 : k0_cond1 i = 1#1) (hc1 : firstBlock i) (hc2 : ¬laterBlock i) (hc3 : ¬k0_cond4 i = 1#1) (E : Set ℕ) (K : PUnit → sProp 𝕄) :
    iprop(owns (c : Thread nD τ) arg2 fullShare x0 ∗ owns (c : Thread nD τ) arg3 fullShare x1
        ∗ owns (c : Thread nD τ) arg8 fullShare d8 ∗ owns (c : Thread nD τ) arg9 fullShare d9 ∗ owns (c : Thread nD τ) arg10 fullShare d10
        ∗ owns (c : Thread nD τ) arg11 fullShare d11 ∗ owns (c : Thread nD τ) arg12 fullShare d12
        ∗ (iprop(owns (c : Thread nD τ) arg2 fullShare x0 ∗ owns (c : Thread nD τ) arg3 fullShare x1
          ∗ owns (c : Thread nD τ) arg8 fullShare (rowsPut i x0 d8) ∗ owns (c : Thread nD τ) arg9 fullShare (hotPut i x1 d9)
          ∗ owns (c : Thread nD τ) arg10 fullShare (k0_pay8 x1 x0) ∗ owns (c : Thread nD τ) arg11 fullShare (k0_pay9 x1 x0)
          ∗ owns (c : Thread nD τ) arg12 fullShare (k0_pay10 x1)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f0, %hf0, H0⟩, ⟨%f1, %hf1, H1⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H8]
  · iexists _; isplitr; swap; · iexact H8
    ipureintro; rw [store_put harg8, load_whole harg2]; rfl
  isplitl [H9]
  · iexists _; isplitr; swap; · iexact H9
    ipureintro; rw [store_put harg9, load_whole harg3]; rfl
  isplitl [H10]
  · iexists _; isplitr; swap; · iexact H10
    ipureintro; rw [View.read_writes_full, load_whole harg2, load_whole harg3]
  isplitl [H11]
  · iexists _; isplitr; swap; · iexact H11
    ipureintro; rw [View.read_writes_full, load_whole harg2, load_whole harg3]
  iexists _; isplitr; swap; · iexact H12
  ipureintro; rw [View.read_writes_full, load_whole harg3]

set_option maxHeartbeats 1200000 in
/-- A later point of the accumulation phase: the block and its one-hot rows are stored, the three sums are added to. -/
theorem run_accumulate (hc0 : k0_cond1 i = 1#1) (hc1 : ¬firstBlock i) (hc2 : laterBlock i) (hc3 : ¬k0_cond4 i = 1#1) (E : Set ℕ) (K : PUnit → sProp 𝕄) :
    iprop(owns (c : Thread nD τ) arg2 fullShare x0 ∗ owns (c : Thread nD τ) arg3 fullShare x1
        ∗ owns (c : Thread nD τ) arg8 fullShare d8 ∗ owns (c : Thread nD τ) arg9 fullShare d9 ∗ owns (c : Thread nD τ) arg10 fullShare d10
        ∗ owns (c : Thread nD τ) arg11 fullShare d11 ∗ owns (c : Thread nD τ) arg12 fullShare d12
        ∗ (iprop(owns (c : Thread nD τ) arg2 fullShare x0 ∗ owns (c : Thread nD τ) arg3 fullShare x1
          ∗ owns (c : Thread nD τ) arg8 fullShare (rowsPut i x0 d8) ∗ owns (c : Thread nD τ) arg9 fullShare (hotPut i x1 d9)
          ∗ owns (c : Thread nD τ) arg10 fullShare (k0_pay11 x1 x0 d10) ∗ owns (c : Thread nD τ) arg11 fullShare (k0_pay12 x1 x0 d11)
          ∗ owns (c : Thread nD τ) arg12 fullShare (k0_pay13 x1 d12)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%f0, %hf0, H0⟩, ⟨%f1, %hf1, H1⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf0; obtain rfl := harg3.eq_unread hf1; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H8]
  · iexists _; isplitr; swap; · iexact H8
    ipureintro; rw [store_put harg8, load_whole harg2]; rfl
  isplitl [H9]
  · iexists _; isplitr; swap; · iexact H9
    ipureintro; rw [store_put harg9, load_whole harg3]; rfl
  isplitl [H10]
  · iexists _; isplitr; swap; · iexact H10
    ipureintro; rw [View.read_writes_full, load_whole harg2, load_whole harg3, load_whole harg10]
  isplitl [H11]
  · iexists _; isplitr; swap; · iexact H11
    ipureintro; rw [View.read_writes_full, load_whole harg2, load_whole harg3, load_whole harg11]
  iexists _; isplitr; swap; · iexact H12
  ipureintro; rw [View.read_writes_full, load_whole harg3, load_whole harg12]

set_option maxHeartbeats 1200000 in
/-- The first point of the normalization phase: the table is built from the sums, and the first block written out. -/
theorem run_table (hc0 : ¬k0_cond1 i = 1#1) (hc1 : firstBlock i) (hc3 : k0_cond4 i = 1#1) (E : Set ℕ) (K : PUnit → sProp 𝕄) :
    iprop(owns (c : Thread nD τ) arg4 fullShare x2 ∗ owns (c : Thread nD τ) arg5 fullShare x3 ∗ owns (c : Thread nD τ) arg6 fullShare x4
        ∗ (∃ d, owns (c : Thread nD τ) arg7 fullShare d)
        ∗ owns (c : Thread nD τ) arg8 fullShare d8 ∗ owns (c : Thread nD τ) arg9 fullShare d9 ∗ owns (c : Thread nD τ) arg10 fullShare d10
        ∗ owns (c : Thread nD τ) arg11 fullShare d11 ∗ owns (c : Thread nD τ) arg12 fullShare d12 ∗ owns (c : Thread nD τ) arg13 fullShare d13
        ∗ (iprop(owns (c : Thread nD τ) arg4 fullShare x2 ∗ owns (c : Thread nD τ) arg5 fullShare x3 ∗ owns (c : Thread nD τ) arg6 fullShare x4
          ∗ owns (c : Thread nD τ) arg7 fullShare (outBlock i d8 d9 (table x2 x3 x4 d10 d11 d12) hc3)
          ∗ owns (c : Thread nD τ) arg8 fullShare d8 ∗ owns (c : Thread nD τ) arg9 fullShare d9 ∗ owns (c : Thread nD τ) arg10 fullShare d10
          ∗ owns (c : Thread nD τ) arg11 fullShare d11 ∗ owns (c : Thread nD τ) arg12 fullShare d12
          ∗ owns (c : Thread nD τ) arg13 fullShare (table x2 x3 x4 d10 d11 d12)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part1_eq_skeleton]; unfold k0_part1_skel
  unfold owns
  iintro ⟨⟨%f2, %hf2, H2⟩, ⟨%f3, %hf3, H3⟩, ⟨%f4, %hf4, H4⟩, ⟨%d7, %f7, -, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg4.eq_unread hf2; obtain rfl := harg5.eq_unread hf3; obtain rfl := harg6.eq_unread hf4; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1 | sl_exact hc3)
  sl_step
  iapply Hk
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [View.read_writes_full, load_window harg9, load_window harg8]
    unfold run_table.sl.v12 View.readCov run_table.sl.H13_2
    rw [View.readAt_full, View.read_writes_cons_put _ _ _ _ _ rfl, View.read_writes_cons_put _ _ _ _ _ rfl, put_halves _ (constant S64x512 .bf16 0x0000#16),
      load_whole harg4, load_whole harg5, load_whole harg6, load_whole harg10, load_whole harg11, load_whole harg12]
    rfl
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  iexists _; isplitr; swap; · iexact H13
  ipureintro
  unfold run_table.sl.H13_2
  rw [View.read_writes_cons_put _ _ _ _ _ rfl, View.read_writes_cons_put _ _ _ _ _ rfl, put_halves _ (constant S64x512 .bf16 0x0000#16),
    load_whole harg4, load_whole harg5, load_whole harg6, load_whole harg10, load_whole harg11, load_whole harg12]
  rfl

set_option maxHeartbeats 1200000 in
/-- A later point of the normalization phase: its block is written out from the table found. -/
theorem run_normalize (hc0 : ¬k0_cond1 i = 1#1) (hc1 : ¬firstBlock i) (hc3 : k0_cond4 i = 1#1) (E : Set ℕ) (K : PUnit → sProp 𝕄) :
    iprop((∃ d, owns (c : Thread nD τ) arg7 fullShare d)
        ∗ owns (c : Thread nD τ) arg8 fullShare d8 ∗ owns (c : Thread nD τ) arg9 fullShare d9 ∗ owns (c : Thread nD τ) arg13 fullShare d13
        ∗ (iprop(owns (c : Thread nD τ) arg7 fullShare (outBlock i d8 d9 d13 hc3)
          ∗ owns (c : Thread nD τ) arg8 fullShare d8 ∗ owns (c : Thread nD τ) arg9 fullShare d9 ∗ owns (c : Thread nD τ) arg13 fullShare d13) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  unfold owns
  iintro ⟨⟨%d7, %f7, -, H7⟩, ⟨%f8, %hf8, H8⟩, ⟨%f9, %hf9, H9⟩, ⟨%f13, %hf13, H13⟩, Hk⟩
  obtain rfl := harg8.eq_unread hf8; obtain rfl := harg9.eq_unread hf9; obtain rfl := harg13.eq_unread hf13
  sl_exec (disch := first | sl_exact hc0 | sl_exact hc1 | sl_exact hc3)
  sl_step
  iapply Hk
  isplitl [H7]
  · iexists _; isplitr; swap; · iexact H7
    ipureintro
    rw [View.read_writes_full, load_window harg9, load_window harg8, load_whole harg13]
    rfl
  isplitl [H8]
  · iexists _; isplitr; · ipureintro; exact harg8.read_unread _
    iexact H8
  isplitl [H9]
  · iexists _; isplitr; · ipureintro; exact harg9.read_unread _
    iexact H9
  iexists _; isplitr; · ipureintro; exact harg13.read_unread _
  iexact H13

end Cert.KernelIdeal.Norm

end
-- ==== Proof.Kernel.Carry.lean ====
/- What the six scratch buffers hold before each grid point, and that every run of the body keeps it: the rows and one-hot
   rows of the blocks seen so far in their slots, the three sums over them, and, once it is built, the table. -/
module

public import proofs.«01_k».proof.Proof.Kernel.Runs

@[expose] public section

set_option maxRecDepth 16384

noncomputable section

namespace Cert.KernelIdeal.Norm

open Idealize.ShloMosaic Idealize.ShloMosaic.TcCoe Idealize.ShloMosaic.Tactic
open Idealize.SL Idealize.SL.Sem
open Cert.KernelIdeal.Gen

variable {F : FTy → Type} [FloatOps F]

/-- Grid point number `n`. -/
def pt (n : ℕ) : Fin cfg0.N := ⟨n % 20, lt_of_lt_of_eq (Nat.mod_lt _ (by decide)) N_0.symm⟩

/-- A grid point is the point of its own number. -/
theorem pt_val (t : Fin cfg0.N) : pt t.val = t :=
  Fin.ext (Nat.mod_eq_of_lt (lt_of_lt_of_eq t.isLt N_0))

variable (m : (ℓ : Loc nD τ sig) → Buf (Elt F) ℓ) (c : Dev nD)

/-- The rows of block `j`. -/
def rowsAt (j : ℕ) : Vec F S5000x256 .f32 := iblk m c 0 (pt j)
/-- The segment ids of block `j`. -/
def idsAt (j : ℕ) : Vec F S1x1x5000 .i32 := iblk m c 1 (pt j)

/-- The sums of the rows by segment, over blocks `0` to `n`. -/
def sums : ℕ → Vec F S64x256 .f32
  | 0 => k0_pay8 (idsAt m c 0) (rowsAt m c 0)
  | n + 1 => k0_pay11 (idsAt m c (n + 1)) (rowsAt m c (n + 1)) (sums n)

/-- The sums of the squared rows by segment, over blocks `0` to `n`. -/
def squares : ℕ → Vec F S64x256 .f32
  | 0 => k0_pay9 (idsAt m c 0) (rowsAt m c 0)
  | n + 1 => k0_pay12 (idsAt m c (n + 1)) (rowsAt m c (n + 1)) (squares n)

/-- The number of rows of each segment, over blocks `0` to `n`. -/
def counts : ℕ → Vec F S1x64 .f32
  | 0 => k0_pay10 (idsAt m c 0)
  | n + 1 => k0_pay13 (idsAt m c (n + 1)) (counts n)

/-- The table built from the sums over all ten blocks. -/
def scaleShift : Vec F S64x512 .bf16 :=
  table (iblk m c 2 (pt 10)) (iblk m c 3 (pt 10)) (iblk m c 4 (pt 10)) (sums m c 9) (squares m c 9) (counts m c 9)

/-- The block the normalization phase writes for block `j`. -/
def outAt (j : ℕ) : Vec F S5000x256 .f32 := k0_pay15 (k0_pay2 (idsAt m c j)) (scaleShift m c) (k0_pay4 (rowsAt m c j))

/-- What the scratch buffers hold before point `n`. -/
structure Carried (n : ℕ) (d8 : Vec F S10x5000x256 .bf16) (d9 : Vec F S10x5000x64 .bf16) (d10 d11 : Vec F S64x256 .f32)
    (d12 : Vec F S1x64 .f32) (d13 : Vec F S64x512 .bf16) : Prop where
  rows : ∀ j, j < 10 → j < n → ∀ h, VecWindow.window d8 ![j, 0, 0] S1x5000x256.size h = k0_pay4 (rowsAt m c j)
  hot : ∀ j, j < 10 → j < n → ∀ h, VecWindow.window d9 ![j, 0, 0] S1x5000x64.size h = k0_pay2 (idsAt m c j)
  sums : 0 < n → d10 = sums m c (min n 10 - 1)
  squares : 0 < n → d11 = squares m c (min n 10 - 1)
  counts : 0 < n → d12 = counts m c (min n 10 - 1)
  table : 10 < n → d13 = scaleShift m c

/-- The slot a point stores to and loads from: its block's number. -/
theorem off1_eq (t : Fin cfg0.N) : k0_off1 (grid0.coords t) = ![t.val % 10, 0, 0] := by
  have hk : ∀ k, k < 10 → (Scalar.indexCast (BitVec.ofNat 32 k) : Index).toNat = k := by decide
  unfold k0_off1
  rw [coords_1]
  show ![(Scalar.indexCast (BitVec.ofNat 32 (t.val % 10)) : Index).toNat, 0, 0] = _
  rw [hk _ (Nat.mod_lt _ (by decide))]
/-- The same slot, for the rows stored. -/
theorem off2_eq (t : Fin cfg0.N) : k0_off2 (grid0.coords t) = ![t.val % 10, 0, 0] := off1_eq t
/-- The same slot, for the one-hot rows loaded. -/
theorem off3_eq (t : Fin cfg0.N) : k0_off3 (grid0.coords t) = ![t.val % 10, 0, 0] := off1_eq t
/-- The same slot, for the rows loaded. -/
theorem off4_eq (t : Fin cfg0.N) : k0_off4 (grid0.coords t) = ![t.val % 10, 0, 0] := off1_eq t

variable {m c}
variable {d8 : Vec F S10x5000x256 .bf16} {d9 : Vec F S10x5000x64 .bf16} {d10 d11 : Vec F S64x256 .f32}
  {d12 : Vec F S1x64 .f32} {d13 : Vec F S64x512 .bf16}

/-- A slot of a ten-slot buffer after one slot was stored: the stored block, or what the slot held. -/
theorem slot_put {α : Type} {N M : ℕ} (X : (⟨3, ![10, N, M]⟩ : Shape).Idx → α) (k : ℕ) (w : (⟨3, ![1, N, M]⟩ : Shape).Idx → α) (G : ℕ → (⟨3, ![1, N, M]⟩ : Shape).Idx → α)
    (hw : w = G k) (hX : ∀ j, j < 10 → j < k → ∀ h, VecWindow.window X ![j, 0, 0] ![1, N, M] h = G j) :
    ∀ j, j < 10 → j < k + 1 → ∀ h, VecWindow.window (VecWindow.put X ![k, 0, 0] ![1, N, M] w) ![j, 0, 0] ![1, N, M] h = G j := by
  intro j hj hk h
  rcases Nat.lt_or_ge j k with hlt | hge
  · rw [VecWindow.window_put_of_disjoint _ _ _ _ _ _ _ 0 (Or.inl hlt)]
    exact hX j hj hlt h
  · obtain rfl : j = k := by omega
    rw [VecWindow.window_put_same, hw]

/-- The first point. -/
theorem Carried.first {t : Fin cfg0.N} (ht : t.val = 0) :
    Carried m c (t.val + 1) (rowsPut (grid0.coords t) (iblk m c 0 t) d8) (hotPut (grid0.coords t) (iblk m c 1 t) d9)
      (k0_pay8 (iblk m c 1 t) (iblk m c 0 t)) (k0_pay9 (iblk m c 1 t) (iblk m c 0 t)) (k0_pay10 (iblk m c 1 t)) d13 := by
  have hp : t = pt 0 := by rw [← ht, pt_val]
  have e0 : rowsAt m c t.val = iblk m c 0 t := by unfold rowsAt; rw [pt_val]
  have e1 : idsAt m c t.val = iblk m c 1 t := by unfold idsAt; rw [pt_val]
  have hm : min (t.val + 1) 10 - 1 = 0 := by omega
  refine ⟨?_, ?_, ?_, ?_, ?_, fun h => absurd h (by omega)⟩
  · unfold rowsPut; rw [off2_eq, Nat.mod_eq_of_lt (by omega)]
    exact slot_put d8 t.val _ (fun j => k0_pay4 (rowsAt m c j)) (by rw [e0]) (fun j _ h => absurd h (by omega))
  · unfold hotPut; rw [off1_eq, Nat.mod_eq_of_lt (by omega)]
    exact slot_put d9 t.val _ (fun j => k0_pay2 (idsAt m c j)) (by rw [e1]) (fun j _ h => absurd h (by omega))
  · intro _; rw [hm]; subst hp; rfl
  · intro _; rw [hm]; subst hp; rfl
  · intro _; rw [hm]; subst hp; rfl

/-- A later point of the accumulation phase. -/
theorem Carried.accumulate {t : Fin cfg0.N} (h : Carried m c t.val d8 d9 d10 d11 d12 d13) (h0 : 0 < t.val) (ht : t.val < 10) :
    Carried m c (t.val + 1) (rowsPut (grid0.coords t) (iblk m c 0 t) d8) (hotPut (grid0.coords t) (iblk m c 1 t) d9)
      (k0_pay11 (iblk m c 1 t) (iblk m c 0 t) d10) (k0_pay12 (iblk m c 1 t) (iblk m c 0 t) d11) (k0_pay13 (iblk m c 1 t) d12) d13 := by
  have e0 : rowsAt m c t.val = iblk m c 0 t := by unfold rowsAt; rw [pt_val]
  have e1 : idsAt m c t.val = iblk m c 1 t := by unfold idsAt; rw [pt_val]
  obtain ⟨n, hn⟩ : ∃ n, t.val = n + 1 := ⟨t.val - 1, by omega⟩
  have hm : min (t.val + 1) 10 - 1 = n + 1 := by omega
  have hm' : min t.val 10 - 1 = n := by omega
  refine ⟨?_, ?_, ?_, ?_, ?_, fun h => absurd h (by omega)⟩
  · unfold rowsPut; rw [off2_eq, Nat.mod_eq_of_lt ht]
    exact slot_put d8 t.val _ (fun j => k0_pay4 (rowsAt m c j)) (by rw [e0]) h.rows
  · unfold hotPut; rw [off1_eq, Nat.mod_eq_of_lt ht]
    exact slot_put d9 t.val _ (fun j => k0_pay2 (idsAt m c j)) (by rw [e1]) h.hot
  · intro _; rw [hm, h.sums h0, hm', ← e0, ← e1, hn]; rfl
  · intro _; rw [hm, h.squares h0, hm', ← e0, ← e1, hn]; rfl
  · intro _; rw [hm, h.counts h0, hm', ← e1, hn]; rfl

/-- The point that builds the table: its contents. -/
theorem Carried.table_eq {t : Fin cfg0.N} (h : Carried m c t.val d8 d9 d10 d11 d12 d13) (ht : t.val = 10) :
    Norm.table (iblk m c 2 t) (iblk m c 3 t) (iblk m c 4 t) d10 d11 d12 = scaleShift m c := by
  have hp : t = pt 10 := by rw [← ht, pt_val]
  have hm' : min t.val 10 - 1 = 9 := by omega
  rw [h.sums (by omega), h.squares (by omega), h.counts (by omega), hm']
  subst hp; rfl

/-- A point of the normalization phase keeps what is carried, the table now there. -/
theorem Carried.normalize {t : Fin cfg0.N} (h : Carried m c t.val d8 d9 d10 d11 d12 d13) (ht : 10 ≤ t.val) :
    Carried m c (t.val + 1) d8 d9 d10 d11 d12 (scaleShift m c) := by
  have hm : min (t.val + 1) 10 - 1 = min t.val 10 - 1 := by omega
  exact ⟨fun j hj _ => h.rows j hj (by omega), fun j hj _ => h.hot j hj (by omega),
    fun _ => by rw [hm]; exact h.sums (by omega), fun _ => by rw [hm]; exact h.squares (by omega), fun _ => by rw [hm]; exact h.counts (by omega), fun _ => rfl⟩

/-- The block such a point writes out. -/
theorem Carried.out {t : Fin cfg0.N} (h : Carried m c t.val d8 d9 d10 d11 d12 d13) (ht : 10 ≤ t.val) (hc : k0_cond4 (grid0.coords t) = 1#1) :
    outBlock (grid0.coords t) d8 d9 (scaleShift m c) hc = outAt m c (t.val - 10) := by
  have hN : t.val < 20 := lt_of_lt_of_eq t.isLt N_0
  have hj : t.val % 10 = t.val - 10 := by omega
  have w8 : ∀ off (hoff : off = ![t.val - 10, 0, 0]) h', VecWindow.window d8 off S1x5000x256.size h' = k0_pay4 (rowsAt m c (t.val - 10)) := by
    intro off hoff h'; subst hoff; exact h.rows _ (by omega) (by omega) _
  have w9 : ∀ off (hoff : off = ![t.val - 10, 0, 0]) h', VecWindow.window d9 off S1x5000x64.size h' = k0_pay2 (idsAt m c (t.val - 10)) := by
    intro off hoff h'; subst hoff; exact h.hot _ (by omega) (by omega) _
  unfold outBlock outAt
  rw [w8 _ (by rw [off4_eq, hj]), w9 _ (by rw [off3_eq, hj])]

end Cert.KernelIdeal.Norm

end
-- ==== Proof.Kernel.Region.lean ====
/- The kernel's one region: the proof data, the body's triple at every grid point, and the run of the whole program, with
   the frame claim it gives. -/
module

public import proofs.«01_k».proof.Proof.Kernel.Carry
public import Idealize.ShloMosaic.Lib.Claim

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is carried into point `n`: the scratch buffers at contents as `Carried` says, and the generator register. -/
def carriedInto (c : Dev nD) (n : ℕ) : sProp 𝕄 :=
  iprop((∃ d8 d9 d10 d11 d12 d13, ⌜Carried m c n d8 d9 d10 d11 d12 d13⌝ ∗ owns (c : Thread nD τ) scM0_0 fullShare d8 ∗ owns (c : Thread nD τ) scM0_1 fullShare d9
    ∗ owns (c : Thread nD τ) scM0_2 fullShare d10 ∗ owns (c : Thread nD τ) scM0_3 fullShare d11 ∗ owns (c : Thread nD τ) scM0_4 fullShare d12 ∗ owns (c : Thread nD τ) scM0_5 fullShare d13)
    ∗ (∃ r, prngReg c r))

/-- The proof data: the inputs' blocks stay in place, the output's block is the normalized block of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c (t.val - 10)
  Φ t := carriedInto m c t.val
  q _ := fullShare
  owed _ := 0

/-- Each array enters the region as the memory holds it. -/
theorem A_eq (c : Dev nD) (w : Fin cfg0.W) : (dats m 0 c).A w = V m c (Pipeline.arrRef spec0 w) := by dsimp only [dats]

/-- The input block of the rows is the same after a point. -/
theorem after_0 (c : Dev nD) (t) : (dats m 0 c).after 0 t = iblk m c 0 t := by dsimp only [dats]
/-- The input block of the ids is the same after a point. -/
theorem after_1 (c : Dev nD) (t) : (dats m 0 c).after 1 t = iblk m c 1 t := by dsimp only [dats]
/-- The input block of the mean's scale is the same after a point. -/
theorem after_2 (c : Dev nD) (t) : (dats m 0 c).after 2 t = iblk m c 2 t := by dsimp only [dats]
/-- The input block of the weight is the same after a point. -/
theorem after_3 (c : Dev nD) (t) : (dats m 0 c).after 3 t = iblk m c 3 t := by dsimp only [dats]
/-- The input block of the bias is the same after a point. -/
theorem after_4 (c : Dev nD) (t) : (dats m 0 c).after 4 t = iblk m c 4 t := by dsimp only [dats]
/-- The output's block after a point is the normalized block. -/
theorem after_5 (c : Dev nD) (t : Fin cfg0.N) : (dats m 0 c).after 5 t = outAt m c (t.val - 10) := by dsimp only [dats]

/-- The input block of the rows before a point is the array's. -/
theorem before_0 (c : Dev nD) (t d) : (dats m 0 c).before 0 t d = iblk m c 0 t := before0_0_of m (dats m 0 c) (A_eq m c 0) (after_0 m c) t d
/-- The input block of the ids before a point is the array's. -/
theorem before_1 (c : Dev nD) (t d) : (dats m 0 c).before 1 t d = iblk m c 1 t := before0_1_of m (dats m 0 c) (A_eq m c 1) (after_1 m c) t d
/-- The input block of the mean's scale before a point is the array's. -/
theorem before_2 (c : Dev nD) (t d) : (dats m 0 c).before 2 t d = iblk m c 2 t := before0_2_of m (dats m 0 c) (A_eq m c 2) (after_2 m c) t d
/-- The input block of the weight before a point is the array's. -/
theorem before_3 (c : Dev nD) (t d) : (dats m 0 c).before 3 t d = iblk m c 3 t := before0_3_of m (dats m 0 c) (A_eq m c 3) (after_3 m c) t d
/-- The input block of the bias before a point is the array's. -/
theorem before_4 (c : Dev nD) (t d) : (dats m 0 c).before 4 t d = iblk m c 4 t := before0_4_of m (dats m 0 c) (A_eq m c 4) (after_4 m c) t d

/-- A window the body never leaves idle is handed back at the block stated for it. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The buffer of the rows is handed back at the input block. -/
theorem leaves_0 (c : Dev nD) (t) : (dats m 0 c).leavesExact 0 t = owns (c : Thread nD τ) (ms0_0 t) fullShare (iblk m c 0 t) := by rw [leaves_live m c 0 t rfl, after_0]
/-- The buffer of the ids is handed back at the input block. -/
theorem leaves_1 (c : Dev nD) (t) : (dats m 0 c).leavesExact 1 t = owns (c : Thread nD τ) (ms0_1 t) fullShare (iblk m c 1 t) := by rw [leaves_live m c 1 t rfl, after_1]
/-- The buffer of the mean's scale is handed back at the input block. -/
theorem leaves_2 (c : Dev nD) (t) : (dats m 0 c).leavesExact 2 t = owns (c : Thread nD τ) (ms0_2 t) fullShare (iblk m c 2 t) := by rw [leaves_live m c 2 t rfl, after_2]
/-- The buffer of the weight is handed back at the input block. -/
theorem leaves_3 (c : Dev nD) (t) : (dats m 0 c).leavesExact 3 t = owns (c : Thread nD τ) (ms0_3 t) fullShare (iblk m c 3 t) := by rw [leaves_live m c 3 t rfl, after_3]
/-- The buffer of the bias is handed back at the input block. -/
theorem leaves_4 (c : Dev nD) (t) : (dats m 0 c).leavesExact 4 t = owns (c : Thread nD τ) (ms0_4 t) fullShare (iblk m c 4 t) := by rw [leaves_live m c 4 t rfl, after_4]

/-- In the accumulation phase no block is written back. -/
theorem no_flush : ∀ t : Fin cfg0.N, t.val < 10 → (cfg0.win 5).flush t = false := by decide +kernel

/-- In the accumulation phase the output's buffer is handed back as it was found. -/
theorem leaves_5_idle (c : Dev nD) (t : Fin cfg0.N) (ht : t.val < 10) :
    (dats m 0 c).leavesExact 5 t = iprop(∃ d, owns (c : Thread nD τ) (ms0_5 t) fullShare ((dats m 0 c).before 5 t d)) := by
  refine (dats m 0 c).leavesExact_idle 5 t ?_ (no_flush t ht)
  show (!(k0_cond4 (grid0.coords t) == 1#1)) = true
  have h : ¬k0_cond4 (grid0.coords t) = 1#1 := fun h => by have := (phase_1 t).mp h; omega
  simpa using h

/-- In the normalization phase it is handed back at the point's block. -/
theorem leaves_5_live (c : Dev nD) (t : Fin cfg0.N) (ht : 10 ≤ t.val) :
    (dats m 0 c).leavesExact 5 t = owns (c : Thread nD τ) (ms0_5 t) fullShare (outAt m c (t.val - 10)) := by
  rw [leaves_live m c 5 t, after_5]
  show (!(k0_cond4 (grid0.coords t) == 1#1)) = false
  rw [(phase_1 t).mpr ht]; rfl

/-- What the body's triple at a point starts from. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d)))
/-- What the body's triple at a point ends in. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

/-- Stepping what is carried across a point: from new contents that are as `Carried` says of the next point. -/
theorem carriedInto_intro (c : Dev nD) (n : ℕ) {d8 d9 d10 d11 d12 d13} (h : Carried m c n d8 d9 d10 d11 d12 d13) :
    iprop((owns (c : Thread nD τ) scM0_0 fullShare d8 ∗ owns (c : Thread nD τ) scM0_1 fullShare d9
      ∗ owns (c : Thread nD τ) scM0_2 fullShare d10 ∗ owns (c : Thread nD τ) scM0_3 fullShare d11 ∗ owns (c : Thread nD τ) scM0_4 fullShare d12 ∗ owns (c : Thread nD τ) scM0_5 fullShare d13)
      ∗ (∃ r, prngReg c r)) ⊢ carriedInto m c n := by
  unfold carriedInto
  iintro ⟨HS, Hg⟩
  isplitl [HS]
  · iexists d8, d9, d10, d11, d12, d13
    isplitr; · ipureintro; exact h
    iexact HS
  iexact Hg

set_option maxHeartbeats 1600000 in
/-- The body's triple at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = carriedInto m c (t.val + 1) from rfl, show (dats m 0 c).Φ t.castSucc = carriedInto m c t.val from rfl]
  rw [leaves_0, leaves_1, leaves_2, leaves_3, leaves_4]
  have hN : t.val < 20 := lt_of_lt_of_eq t.isLt N_0
  rw [carriedInto]
  by_cases h0 : t.val < 10
  · have c0 := (phase_0 t).mpr h0
    have c3 : ¬k0_cond4 (grid0.coords t) = 1#1 := fun h => by have := (phase_1 t).mp h; omega
    rw [leaves_5_idle m c t h0]
    by_cases h1 : t.val = 0
    · have c1 : firstBlock (grid0.coords t) := (firstBlock_iff t).mpr (by omega)
      have c2 : ¬laterBlock (grid0.coords t) := fun h => by have := (laterBlock_iff t).mp h; omega
      iintro ⟨⟨⟨%d8, %d9, %d10, %d11, %d12, %d13, %hC, HS0, HS1, HS2, HS3, HS4, HS5⟩, Hg⟩, Ho, ⟨%e0, H0⟩, ⟨%e1, H1⟩, ⟨%e2, H2⟩, ⟨%e3, H3⟩, ⟨%e4, H4⟩, H5⟩
      iapply (run_first c (grid0.coords t) _ _ _ _ _ _ _ _ _ _ _ _ _ _ _ _ _ _ _ _ _ _ _ _ (iblk m c 0 t) (iblk m c 1 t) d8 d9 d10 d11 d12 c0 c1 c2 c3 Set.univ _)
      isplitl [H0]; · iexact H0
      isplitl [H1]; · iexact H1
      isplitl [HS0]; · iexact HS0
      isplitl [HS1]; · iexact HS1
      isplitl [HS2]; · iexact HS2
      isplitl [HS3]; · iexact HS3
      isplitl [HS4]; · iexact HS4
      iintro ⟨H0, H1, HS0, HS1, HS2, HS3, HS4⟩
      isplitl [HS0 HS1 HS2 HS3 HS4 HS5 Hg]
      · iapply (carriedInto_intro m c (t.val + 1) (Carried.first (m := m) (c := c) (d8 := d8) (d9 := d9) (d13 := d13) h1))
        isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      iexact H5
    · have c1 : ¬firstBlock (grid0.coords t) := fun h => by have := (firstBlock_iff t).mp h; omega
      have c2 : laterBlock (grid0.coords t) := (laterBlock_iff t).mpr (by omega)
      iintro ⟨⟨⟨%d8, %d9, %d10, %d11, %d12, %d13, %hC, HS0, HS1, HS2, HS3, HS4, HS5⟩, Hg⟩, Ho, ⟨%e0, H0⟩, ⟨%e1, H1⟩, ⟨%e2, H2⟩, ⟨%e3, H3⟩, ⟨%e4, H4⟩, H5⟩
      iapply (run_accumulate c (grid0.coords t) _ _ _ _ _ _ _ _ _ _ _ _ _ _ _ _ _ _ _ _ _ _ _ _ (iblk m c 0 t) (iblk m c 1 t) d8 d9 d10 d11 d12 c0 c1 c2 c3 Set.univ _)
      isplitl [H0]; · iexact H0
      isplitl [H1]; · iexact H1
      isplitl [HS0]; · iexact HS0
      isplitl [HS1]; · iexact HS1
      isplitl [HS2]; · iexact HS2
      isplitl [HS3]; · iexact HS3
      isplitl [HS4]; · iexact HS4
      iintro ⟨H0, H1, HS0, HS1, HS2, HS3, HS4⟩
      isplitl [HS0 HS1 HS2 HS3 HS4 HS5 Hg]
      · iapply (carriedInto_intro m c (t.val + 1) (hC.accumulate (by omega) h0))
        isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      iexact H5
  · have h0' : 10 ≤ t.val := by omega
    have c0 : ¬k0_cond1 (grid0.coords t) = 1#1 := fun h => by have := (phase_0 t).mp h; omega
    have c3 : k0_cond4 (grid0.coords t) = 1#1 := (phase_1 t).mpr h0'
    rw [leaves_5_live m c t h0']
    by_cases h1 : t.val = 10
    · have c1 : firstBlock (grid0.coords t) := (firstBlock_iff t).mpr (by omega)
      iintro ⟨⟨⟨%d8, %d9, %d10, %d11, %d12, %d13, %hC, HS0, HS1, HS2, HS3, HS4, HS5⟩, Hg⟩, Ho, ⟨%e0, H0⟩, ⟨%e1, H1⟩, ⟨%e2, H2⟩, ⟨%e3, H3⟩, ⟨%e4, H4⟩, ⟨%e5, H5⟩⟩
      have hrun := run_table c (grid0.coords t) (ms0_0 t) (hs0_0 t) (ms0_1 t) (hs0_1 t) (ms0_2 t) (hs0_2 t) (ms0_3 t) (hs0_3 t) (ms0_4 t) (hs0_4 t) (ms0_5 t) (hs0_5 t)
        scM0_0 (Memref.isWhole_whole _) scM0_1 (Memref.isWhole_whole _) scM0_2 (Memref.isWhole_whole _) scM0_3 (Memref.isWhole_whole _) scM0_4 (Memref.isWhole_whole _) scM0_5 (Memref.isWhole_whole _)
        (iblk m c 2 t) (iblk m c 3 t) (iblk m c 4 t) d8 d9 d10 d11 d12 d13 c0 c1 c3 Set.univ
      rw [hC.table_eq h1, hC.out h0'] at hrun
      iapply (hrun _)
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      isplitl [HS5]; · iexact HS5
      iintro ⟨H2, H3, H4, H5, HS0, HS1, HS2, HS3, HS4, HS5⟩
      isplitl [HS0 HS1 HS2 HS3 HS4 HS5 Hg]
      · iapply (carriedInto_intro m c (t.val + 1) (hC.normalize h0'))
        isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      iexact H5
    · have c1 : ¬firstBlock (grid0.coords t) := fun h => by have := (firstBlock_iff t).mp h; omega
      iintro ⟨⟨⟨%d8, %d9, %d10, %d11, %d12, %d13, %hC, HS0, HS1, HS2, HS3, HS4, HS5⟩, Hg⟩, Ho, ⟨%e0, H0⟩, ⟨%e1, H1⟩, ⟨%e2, H2⟩, ⟨%e3, H3⟩, ⟨%e4, H4⟩, ⟨%e5, H5⟩⟩
      obtain rfl := hC.table (by omega)
      have hrun := run_normalize c (grid0.coords t) (ms0_0 t) (hs0_0 t) (ms0_1 t) (hs0_1 t) (ms0_2 t) (hs0_2 t) (ms0_3 t) (hs0_3 t) (ms0_4 t) (hs0_4 t) (ms0_5 t) (hs0_5 t)
        scM0_0 (Memref.isWhole_whole _) scM0_1 (Memref.isWhole_whole _) scM0_2 (Memref.isWhole_whole _) scM0_3 (Memref.isWhole_whole _) scM0_4 (Memref.isWhole_whole _) scM0_5 (Memref.isWhole_whole _)
        d8 d9 (scaleShift m c) c0 c1 c3 Set.univ
      rw [hC.out h0'] at hrun
      iapply (hrun _)
      isplitl [H5]; · iexists _; iexact H5
      isplitl [HS0]; · iexact HS0
      isplitl [HS1]; · iexact HS1
      isplitl [HS5]; · iexact HS5
      iintro ⟨H5, HS0, HS1, HS5⟩
      isplitl [HS0 HS1 HS2 HS3 HS4 HS5 Hg]
      · iapply (carriedInto_intro m c (t.val + 1) (hC.normalize h0'))
        isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      iexact H5

/-- The region's body at a point is the kernel's body on that point's buffers. -/
theorem defs₀_row (t : Fin cfg0.N) : defs₀ (F := F) .tc cfg0.body (cfg0.bodyArgs t (cfg0.slots t)) = bodyAt0 t := by unfold defs₀; rw [Defs.onTc_tc]

/-- The region's obligation: the body's triple at every point, in the launch's own form. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the scratch buffers. -/
theorem hin (c : Dev nD) : Pipeline.ΦA spec0 c ⊢ (dats m 0 c).Φ 0 := by
  rw [show (dats m 0 c).Φ 0 = carriedInto m c 0 from rfl, PhiA0_eq]
  unfold carriedInto
  iintro ⟨⟨⟨%d8, HS0⟩, ⟨%d9, HS1⟩, ⟨%d10, HS2⟩, ⟨%d11, HS3⟩, ⟨%d12, HS4⟩, ⟨%d13, HS5⟩⟩, Hg⟩
  isplitl [HS0 HS1 HS2 HS3 HS4 HS5]
  · iexists d8, d9, d10, d11, d12, d13
    isplitr
    · ipureintro
      exact ⟨fun j _ h => absurd h (by omega), fun j _ h => absurd h (by omega), fun h => absurd h (by omega), fun h => absurd h (by omega),
        fun h => absurd h (by omega), fun h => absurd h (by omega)⟩
    isplitl [HS0]; · iexact HS0
    isplitl [HS1]; · iexact HS1
    isplitl [HS2]; · iexact HS2
    isplitl [HS3]; · iexact HS3
    isplitl [HS4]; · iexact HS4
    iexact HS5
  iexact Hg

/-- After the last point the scratch buffers' contents are forgotten. -/
theorem hout (c : Dev nD) : (dats m 0 c).Φ (Fin.last cfg0.N) ⊢ Pipeline.ΦA spec0 c := by
  rw [show (dats m 0 c).Φ (Fin.last cfg0.N) = carriedInto m c cfg0.N from rfl, PhiA0_eq]
  unfold carriedInto
  iintro ⟨⟨%d8, %d9, %d10, %d11, %d12, %d13, -, HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
/-- The launch: every weakly fair execution terminates with each array at its final contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged and every counter ends at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Norm

end
-- ==== Proof.Kernel.Printed.lean ====
module

public import proofs.«01_k».proof.Defs
public import proofs.«01_k».proof.Proof.Gen.Kernel
public import proofs.«01_k».proof.Proof.Kernel.Region

/-! The program at bit-level floats and the program read at the extended reals are the same text: their
signatures, kernel functions, body tables and mains are equal. So the frame proved for the second in
`Region`, over any float instance, is the frame of the first. -/

@[expose] public section

noncomputable section
namespace Cert.KernelIdeal.Norm

open Idealize.ShloMosaic Idealize.SL.Sem

set_option maxRecDepth 65536 in
/-- The two programs run the same kernel function at each label. -/
theorem printed_table : @Cert.Kernel.defs₀ Bits _ _ = @Cert.KernelIdeal.defs₀ Bits _ _ := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

set_option maxRecDepth 65536 in
/-- The two programs have the same definitions, the pipeline's included. -/
theorem printed_defs : @Cert.Kernel.defs Bits _ _ = @Cert.KernelIdeal.defs Bits _ _ := by
  unfold Cert.Kernel.defs Cert.KernelIdeal.defs
  rw [printed_table]
  rfl

set_option maxRecDepth 65536 in
/-- The bit-level program runs, ends with every semaphore at zero and leaves its arguments unchanged. -/
theorem frame_printed : Cert.quiescent_Kernel := by
  intro m ρ _
  rw [printed_defs]
  exact frame_claim (F := Bits) m ρ

end Cert.KernelIdeal.Norm
end
-- ==== Proof.Value.Algebra.lean ====
/- The arithmetic the two programs share, at one entry of the result: the rows of a segment in one column, normalized as the
   reference does (centre them, then divide by the root of their mean square) and as the kernel does (from the sums of the
   rows and of their squares, as a scale and a shift). The two agree at finite rows and a finite weight, whatever the mean's
   scale and the bias are. -/
module

public import Idealize.ShloMosaic.Lib.IdealHost
import Mathlib.Tactic.Ring
import Mathlib.Tactic.FieldSimp
import Mathlib.Tactic.Positivity

@[expose] public section

noncomputable section

namespace Cert.Norm

open Idealize.ShloMosaic
open scoped BigOperators

variable {N : ℕ}

/-- The rows whose index word is `g`. -/
def rowsOf (ids : Fin N → BitVec 32) (g : ℕ) : Finset (Fin N) := Finset.univ.filter fun r => ids r = BitVec.ofNat 32 g

/-- The number of rows of a segment, one for an empty one. -/
def size (A : Finset (Fin N)) : EReal := max (∑ _r ∈ A, 1) 1

/-- The constant added to a variance before its root. -/
def epsilon : EReal := Ideal.ofBits .f32 0x358637BD#32

/-- Row `r` normalized over the rows of `A` the reference's way: `a` scales the mean taken off, `w` and `b` the result. -/
def centred (A : Finset (Fin N)) (x : Fin N → EReal) (a w b : EReal) (r : Fin N) : EReal :=
  Ideal.div (w * (x r - a * Ideal.div (∑ s ∈ A, x s) (size A)))
    (Ideal.sqrt (Ideal.div (∑ s ∈ A, (x s - a * Ideal.div (∑ s ∈ A, x s) (size A)) * (x s - a * Ideal.div (∑ s ∈ A, x s) (size A))) (size A) + epsilon)) + b

/-- It suffices that the squares summed are those of the segment's rows less the scaled mean. -/
theorem centred_of_squares (A : Finset (Fin N)) (x : Fin N → EReal) (a w b : EReal) (r : Fin N) (f : Fin N → EReal)
    (hf : ∀ s ∈ A, f s = (x s - a * Ideal.div (∑ s ∈ A, x s) (size A)) * (x s - a * Ideal.div (∑ s ∈ A, x s) (size A))) :
    Ideal.div (w * (x r - a * Ideal.div (∑ s ∈ A, x s) (size A))) (Ideal.sqrt (Ideal.div (∑ s ∈ A, f s) (size A) + epsilon)) + b
      = centred A x a w b r := by
  rw [Finset.sum_congr rfl hf]
  rfl

/-- The kernel's mean, from a sum `s` and a number of rows `n`. -/
def mean (n s : EReal) : EReal := s * Ideal.div 1 (max n 1)
/-- The kernel's scale: the weight over the root of the variance. -/
def scale (n s q a w : EReal) : EReal :=
  w * Ideal.rsqrt (q * Ideal.div 1 (max n 1) - (Ideal.ofBits .f32 0x40000000#32 * a - a * a) * (mean n s * mean n s) + epsilon)
/-- The kernel's shift: the bias less the scaled mean times the scale. -/
def shift (n s q a w b : EReal) : EReal := b - a * mean n s * scale n s q a w

/-- The word of the kernel's factor is two. -/
theorem two_eq : Ideal.ofBits .f32 0x40000000#32 = ((2 : ℝ) : EReal) := by
  simp [Ideal.ofBits, Ideal.ieee, -EReal.coe_mul]; norm_num

/-- The constant added to a variance is a positive real. -/
theorem epsilon_eq : ∃ e : ℝ, 0 < e ∧ epsilon = (e : EReal) := by
  refine ⟨8796093 * (2 ^ 43)⁻¹, by positivity, ?_⟩
  simp [epsilon, Ideal.ofBits, Ideal.ieee, -EReal.coe_mul]

/-- A sum of real numbers is real. -/
theorem coe_sum (A : Finset (Fin N)) (y : Fin N → ℝ) : ∑ r ∈ A, (y r : EReal) = ((∑ r ∈ A, y r : ℝ) : EReal) := by
  induction A using Finset.cons_induction with
  | empty => simp
  | cons i s hi ih => rw [Finset.sum_cons, Finset.sum_cons, ih, EReal.coe_add]

/-- A sum of infinities over a nonempty set is infinite. -/
theorem sum_top {A : Finset (Fin N)} (hA : A.Nonempty) : ∑ _r ∈ A, (⊤ : EReal) = ⊤ := by
  induction hA using Finset.Nonempty.cons_induction with
  | singleton i => simp
  | cons i s hi hs ih => rw [Finset.sum_cons, ih]; rfl

/-- A sum of ones is the number of rows. -/
theorem sum_one (A : Finset (Fin N)) : ∑ _r ∈ A, (1 : EReal) = ((A.card : ℝ) : EReal) := by
  have h := coe_sum A (fun _ => 1)
  rw [EReal.coe_one] at h
  rw [h, Finset.sum_const, nsmul_eq_mul, mul_one]

/-- The size of a nonempty segment is its number of rows. -/
theorem size_eq {A : Finset (Fin N)} (hA : A.Nonempty) : size A = ((A.card : ℝ) : EReal) := by
  unfold size
  rw [sum_one, max_eq_left]
  exact_mod_cast hA.card_pos

/-- A nonempty segment has a positive number of rows. -/
theorem card_pos' {A : Finset (Fin N)} (hA : A.Nonempty) : (0 : ℝ) < A.card := by exact_mod_cast hA.card_pos

/-- The sum of the squares of the rows off a multiple of their mean, out of the sums of the rows and of their squares. -/
theorem sum_sq_sub (A : Finset (Fin N)) (y : Fin N → ℝ) (t : ℝ) :
    ∑ r ∈ A, (y r - t) * (y r - t) = ∑ r ∈ A, y r * y r - 2 * t * ∑ r ∈ A, y r + A.card * (t * t) := by
  rw [Finset.mul_sum, ← nsmul_eq_mul, ← Finset.sum_const, ← Finset.sum_sub_distrib, ← Finset.sum_add_distrib]
  exact Finset.sum_congr rfl fun r _ => by ring

/-- The two ways agree at a finite scale of the mean. -/
theorem agree_real {A : Finset (Fin N)} (hA : A.Nonempty) (y : Fin N → ℝ) (a w : ℝ) (b : EReal) (r : Fin N) :
    (y r : EReal) * scale (∑ _r ∈ A, 1) (∑ s ∈ A, (y s : EReal)) (∑ s ∈ A, (y s : EReal) * (y s : EReal)) a w
      + shift (∑ _r ∈ A, 1) (∑ s ∈ A, (y s : EReal)) (∑ s ∈ A, (y s : EReal) * (y s : EReal)) a w b
      = centred A (fun r => (y r : EReal)) a w b r := by
  have hn := card_pos' hA
  have hn' := hn.ne'
  obtain ⟨e, he, hee⟩ := epsilon_eq
  have hm : max (∑ _r ∈ A, (1 : EReal)) 1 = ((A.card : ℝ) : EReal) := size_eq hA
  have hq : ∑ s ∈ A, (y s : EReal) * (y s : EReal) = ((∑ s ∈ A, y s * y s : ℝ) : EReal) := by
    rw [← coe_sum]; exact Finset.sum_congr rfl fun s _ => (EReal.coe_mul _ _).symm
  unfold shift scale mean centred
  rw [size_eq hA, hm, hq, coe_sum, hee, two_eq]
  generalize hS : ∑ s ∈ A, y s = S
  generalize hn0 : (A.card : ℝ) = n at hn hn'
  simp only [Ideal.div_coe hn', one_mul, ← EReal.coe_mul, ← EReal.coe_sub, ← EReal.coe_add, coe_sum]
  have hvar : (∑ s ∈ A, y s * y s) * (1 / n) - (2 * a - a * a) * (S * (1 / n) * (S * (1 / n)))
      = (∑ s ∈ A, (y s - a * (S * (1 / n))) * (y s - a * (S * (1 / n)))) * (1 / n) := by
    rw [sum_sq_sub, hS, hn0]
    field_simp
    ring
  rw [hvar]
  have hpos : 0 < (∑ s ∈ A, (y s - a * (S * (1 / n))) * (y s - a * (S * (1 / n)))) * (1 / n) + e :=
    add_pos_of_nonneg_of_pos (mul_nonneg (Finset.sum_nonneg fun s _ => mul_self_nonneg _) (by positivity)) he
  generalize (∑ s ∈ A, (y s - a * (S * (1 / n))) * (y s - a * (S * (1 / n)))) * (1 / n) + e = v at hpos
  have hv := (Real.sqrt_pos.mpr hpos).ne'
  rw [Ideal.rsqrt_coe, Ideal.sqrt_coe, if_neg hpos.not_gt, if_neg hpos.ne', if_neg hpos.not_gt, Ideal.div_coe hv]
  simp only [← EReal.coe_mul]
  rw [sub_eq_add_neg, add_left_comm, ← EReal.coe_neg, ← EReal.coe_add, add_comm b]
  congr 2
  rw [one_div]
  ring

/-- A finite number less an infinite one, squared, is infinite. -/
theorem sub_inf_sq (u : ℝ) {t : EReal} (ht : t = ⊤ ∨ t = ⊥) : ((u : EReal) - t) * ((u : EReal) - t) = ⊤ := by
  rcases ht with rfl | rfl
  · rw [EReal.sub_top, EReal.bot_mul_bot]
  · rw [EReal.coe_sub_bot, EReal.top_mul_top]

/-- An infinite number times a finite one that is not zero is infinite. -/
theorem inf_mul {a : EReal} (ha : a = ⊤ ∨ a = ⊥) {t : ℝ} (ht : t ≠ 0) : a * (t : EReal) = ⊤ ∨ a * (t : EReal) = ⊥ := by
  rcases lt_or_gt_of_ne ht with h | h <;> rcases ha with rfl | rfl
  · exact Or.inr (EReal.top_mul_coe_of_neg h)
  · exact Or.inl (EReal.bot_mul_coe_of_neg h)
  · exact Or.inl (EReal.top_mul_coe_of_pos h)
  · exact Or.inr (EReal.bot_mul_coe_of_pos h)

/-- At an infinite scale of the mean the factor of the squared mean in the kernel's variance is infinite downwards. -/
theorem factor_inf {a : EReal} (ha : a = ⊤ ∨ a = ⊥) : ((2 : ℝ) : EReal) * a - a * a = ⊥ := by
  rcases ha with rfl | rfl
  · rw [EReal.top_mul_top, EReal.sub_top]
  · rw [EReal.bot_mul_bot, EReal.sub_top]

/-- The two ways agree at an infinite scale of the mean: where the mean is zero the scale does not matter, elsewhere the
    variance is infinite and the bias alone is left. -/
theorem agree_inf {A : Finset (Fin N)} (hA : A.Nonempty) (y : Fin N → ℝ) {a : EReal} (ha : a = ⊤ ∨ a = ⊥) (w : ℝ) (b : EReal) (r : Fin N) :
    (y r : EReal) * scale (∑ _r ∈ A, 1) (∑ s ∈ A, (y s : EReal)) (∑ s ∈ A, (y s : EReal) * (y s : EReal)) a w
      + shift (∑ _r ∈ A, 1) (∑ s ∈ A, (y s : EReal)) (∑ s ∈ A, (y s : EReal) * (y s : EReal)) a w b
      = centred A (fun r => (y r : EReal)) a w b r := by
  have hn := card_pos' hA
  have hn' := hn.ne'
  have hm : max (∑ _r ∈ A, (1 : EReal)) 1 = ((A.card : ℝ) : EReal) := size_eq hA
  by_cases h0 : ∑ s ∈ A, y s = 0
  · have := agree_real hA y 0 w b r
    unfold shift scale mean centred at this ⊢
    rw [size_eq hA, hm, coe_sum, h0] at this ⊢
    simp only [Ideal.div_coe hn', EReal.coe_zero, zero_mul, mul_zero, sub_zero] at this ⊢
    exact this
  · obtain ⟨e, he, hee⟩ := epsilon_eq
    have hq : ∑ s ∈ A, (y s : EReal) * (y s : EReal) = ((∑ s ∈ A, y s * y s : ℝ) : EReal) := by
      rw [← coe_sum]; exact Finset.sum_congr rfl fun s _ => (EReal.coe_mul _ _).symm
    unfold shift scale mean centred
    rw [size_eq hA, hm, hq, coe_sum, hee, two_eq, factor_inf ha]
    simp only [Ideal.div_coe hn', one_mul, ← EReal.coe_mul]
    have hmean : (∑ s ∈ A, y s) * (1 / (A.card : ℝ)) ≠ 0 := mul_ne_zero h0 (by positivity)
    generalize (∑ s ∈ A, y s) * (1 / (A.card : ℝ)) = μ at hmean
    have ht := inf_mul ha hmean
    have hc : (0 : ℝ) < 1 / (A.card : ℝ) := by positivity
    rw [EReal.bot_mul_coe_of_pos (mul_self_pos.mpr hmean), EReal.coe_sub_bot, EReal.top_add_coe, Ideal.rsqrt_top, mul_zero, mul_zero, mul_zero, sub_zero]
    rw [Finset.sum_congr rfl fun s _ => sub_inf_sq (y s) ht, sum_top hA, EReal.top_mul_coe_of_pos hc, EReal.top_add_coe, Ideal.sqrt_top]
    unfold Ideal.div
    rw [if_neg (by decide), EReal.inv_top, mul_zero]

/-- **The two ways agree**, at finite rows and a finite weight, whatever the scale of the mean and the bias are. -/
theorem agree {A : Finset (Fin N)} (hA : A.Nonempty) (x : Fin N → EReal) (hx : ∀ r, ∃ y : ℝ, x r = y) (a : EReal) {w : EReal} (hw : ∃ v : ℝ, w = v)
    (b : EReal) (r : Fin N) :
    x r * scale (∑ _r ∈ A, 1) (∑ s ∈ A, x s) (∑ s ∈ A, x s * x s) a w + shift (∑ _r ∈ A, 1) (∑ s ∈ A, x s) (∑ s ∈ A, x s * x s) a w b
      = centred A x a w b r := by
  obtain ⟨v, rfl⟩ := hw
  choose y hy using hx
  obtain rfl : x = fun r => (y r : EReal) := funext hy
  induction a using EReal.rec with
  | bot => exact agree_inf hA y (Or.inr rfl) v b r
  | coe a => exact agree_real hA y a v b r
  | top => exact agree_inf hA y (Or.inl rfl) v b r

/-- A sum over ten blocks of 5000 rows is the sum over all rows. -/
theorem blocks_sum (f : Fin 50000 → EReal) : ∑ j : Fin 10, ∑ r : Fin 5000, f ⟨5000 * j.val + r.val, by omega⟩ = ∑ i, f i := by
  rw [← Fintype.sum_prod_type']
  refine Fintype.sum_equiv (finProdFinEquiv.trans (finCongr (by decide : 10 * 5000 = 50000))) _ _ fun p => congrArg f (Fin.ext ?_)
  show 5000 * p.1.val + p.2.val = p.2.val + 5000 * p.1.val
  omega

/-- A sum weighted by whether a row's index word is `g` is the sum over the segment's rows. -/
theorem sum_hot (ids : Fin N → BitVec 32) (g : ℕ) (f : Fin N → EReal) :
    ∑ r, (if ids r = BitVec.ofNat 32 g then 1 else 0) * f r = ∑ r ∈ rowsOf ids g, f r := by
  rw [rowsOf, Finset.sum_filter]
  refine Finset.sum_congr rfl fun r _ => ?_
  split
  · exact one_mul _
  · exact zero_mul _

/-- A sum over the segments weighted by whether the word is the segment's number is the term of the word's own segment. -/
theorem pick_hot (f : Fin 64 → EReal) (g : Fin 64) :
    ∑ i : Fin 64, (if BitVec.ofNat 32 g.val = BitVec.ofNat 32 i.val then 1 else 0) * f i = f g := by
  have h : ∀ i g : Fin 64, BitVec.ofNat 32 g.val = BitVec.ofNat 32 i.val → g = i := by decide
  rw [Finset.sum_eq_single g]
  · rw [if_pos rfl, one_mul]
  · intro i _ hi
    rw [if_neg fun e => hi (h i g e).symm, zero_mul]
  · exact fun hg => absurd (Finset.mem_univ _) hg

end Cert.Norm
end
-- ==== Proof.Value.Entries.lean ====
/- The values the kernel's body stores, read at an entry: the one-hot rows of a block of segment ids, the sums of a block by
   segment, the scale and the shift of a segment, and the block of the result. -/
module

public import proofs.«01_k».proof.Proof.Kernel.Carry
public import proofs.«01_k».proof.Proof.Value.Algebra
public import Idealize.ShloMosaic.Lib.Pipeline.ValueKit
public import Idealize.ShloMosaic.Lib.IdealHost

@[expose] public section

set_option maxRecDepth 16384

noncomputable section

namespace Cert.KernelIdeal.Norm

open Idealize.ShloMosaic Idealize.ShloMosaic.TcCoe Idealize.SL.Sem
open Cert.Norm Cert.KernelIdeal.Gen

variable (b : Vec Ideal S1x1x5000 .i32) (x : Vec Ideal S5000x256 .f32) (s q : Vec Ideal S64x256 .f32) (n : Vec Ideal S1x64 .f32)
  (st : Vec Ideal S64x512 .bf16) (al w be : Vec Ideal S1x256 .f32)

/-- One where the id of row `r` is `g`, zero elsewhere. -/
def hot (r : Fin 5000) (g : Fin 64) : EReal := if b (ix3 0 0 r) = BitVec.ofNat 32 g.val then 1 else 0

/-- The block of ids as one-hot rows. -/
theorem hot_entry (r : Fin 5000) (g : Fin 64) : k0_pay1 (F := Ideal) b (ix2 r g) = hot b r g := by
  pointwise [k0_pay1]
  unfold hot
  by_cases h : b (ix3 0 0 r) = BitVec.ofNat 32 g.val
  · rw [if_pos h, h]
    simp [IntOp.cmpi, FloatOps.sitofp]
  · rw [if_neg h]
    simp [IntOp.cmpi, FloatOps.sitofp, beq_eq_false_iff_ne.mpr h]

/-- A block's sums of rows by segment. -/
theorem block_sum (g : Fin 64) (c : Fin 256) : k0_pay5 (F := Ideal) b x (ix2 g c) = ∑ r : Fin 5000, hot b r g * x (ix2 r c) := by
  pointwise [k0_pay5, k0_pay3]
  simp only [hot_entry]
/-- A block's sums of squared rows by segment. -/
theorem block_square (g : Fin 64) (c : Fin 256) :
    k0_pay6 (F := Ideal) b x (ix2 g c) = ∑ r : Fin 5000, hot b r g * (x (ix2 r c) * x (ix2 r c)) := by
  pointwise [k0_pay6, k0_pay3]
  simp only [hot_entry]
/-- A block's number of rows by segment. -/
theorem block_count (g : Fin 64) : k0_pay7 (F := Ideal) b (ix2 0 g) = ∑ r : Fin 5000, hot b r g := by
  pointwise [k0_pay7]
  simp only [hot_entry]

/-- The first block's sums are stored as they are. -/
theorem first_sum (g : Fin 64) (c : Fin 256) : k0_pay8 (F := Ideal) b x (ix2 g c) = k0_pay5 b x (ix2 g c) := by
  pointwise [k0_pay8]
/-- The first block's sums of squares are stored as they are. -/
theorem first_square (g : Fin 64) (c : Fin 256) : k0_pay9 (F := Ideal) b x (ix2 g c) = k0_pay6 b x (ix2 g c) := by
  pointwise [k0_pay9]
/-- The first block's numbers of rows are stored as they are. -/
theorem first_count (g : Fin 64) : k0_pay10 (F := Ideal) b (ix2 0 g) = k0_pay7 b (ix2 0 g) := by
  pointwise [k0_pay10]

/-- A later block's sums are added to what is there. -/
theorem next_sum (g : Fin 64) (c : Fin 256) : k0_pay11 (F := Ideal) b x s (ix2 g c) = s (ix2 g c) + k0_pay5 b x (ix2 g c) := by
  pointwise [k0_pay11]
/-- A later block's sums of squares are added to what is there. -/
theorem next_square (g : Fin 64) (c : Fin 256) : k0_pay12 (F := Ideal) b x s (ix2 g c) = s (ix2 g c) + k0_pay6 b x (ix2 g c) := by
  pointwise [k0_pay12]
/-- A later block's numbers of rows are added to what is there. -/
theorem next_count (g : Fin 64) : k0_pay13 (F := Ideal) b n (ix2 0 g) = n (ix2 0 g) + k0_pay7 b (ix2 0 g) := by
  pointwise [k0_pay13]

/-- A segment's scale, from its sum, its sum of squares and its number of rows. -/
theorem scale_entry (g : Fin 64) (c : Fin 256) :
    k0_pay19 (F := Ideal) n s q al w (ix2 g c) = scale (n (ix2 0 g)) (s (ix2 g c)) (q (ix2 g c)) (al (ix2 0 c)) (w (ix2 0 c)) := by
  pointwise [k0_pay19, k0_pay18, k0_pay17, k0_pay16]
  rfl
/-- The scale stored in the table is the scale itself. -/
theorem scale_stored (g : Fin 64) (c : Fin 256) : k0_pay20 (F := Ideal) n s q al w (ix2 g c) = k0_pay19 n s q al w (ix2 g c) := by
  pointwise [k0_pay20]
/-- A segment's shift, from the same three sums. -/
theorem shift_entry (g : Fin 64) (c : Fin 256) :
    k0_pay14 (F := Ideal) (k0_pay19 n s q al w) (k0_pay21 be) (k0_pay22 n s al) (ix2 g c)
      = shift (n (ix2 0 g)) (s (ix2 g c)) (q (ix2 g c)) (al (ix2 0 c)) (w (ix2 0 c)) (be (ix2 0 c)) := by
  pointwise [k0_pay14, k0_pay21, k0_pay22, k0_pay18, k0_pay17, k0_pay16]
  rw [scale_entry]
  rfl

/-- A block of the result: each row times the scale its one-hot row picks from the table, plus the shift it picks. -/
theorem out_entry (r : Fin 5000) (c : Fin 256) :
    k0_pay15 (F := Ideal) (k0_pay2 b) st (k0_pay4 x) (ix2 r c)
      = x (ix2 r c) * (∑ g : Fin 64, hot b r g * st (ix2 g ⟨c.val, by omega⟩)) + ∑ g : Fin 64, hot b r g * st (ix2 g ⟨256 + c.val, by omega⟩) := by
  pointwise [k0_pay15, k0_pay4, k0_pay3, k0_pay2]
  simp only [hot_entry]

end Cert.KernelIdeal.Norm

end
-- ==== Proof.Value.Blocks.lean ====
/- The input blocks of the kernel at their entries: each is the argument it was cut from, read at the place it was cut. -/
module

public import proofs.«01_k».proof.Proof.Kernel.Region
public import Idealize.ShloMosaic.Lib.Pipeline.ValueKit
public import Idealize.ShloMosaic.Lib.IdealHost
public import Idealize.ShloMosaic.Lib.Claim

@[expose] public section

set_option maxRecDepth 16384

noncomputable section

namespace Cert.KernelIdeal.Norm

open Idealize.ShloMosaic Idealize.ShloMosaic.TcCoe Idealize.SL.Sem
open Cert.KernelIdeal.Gen

variable (m : (ℓ : Loc nD τ sig) → Buf (Elt Ideal) ℓ) (c : Dev nD)

/-- Each window's block at a point: the rows' and the ids' of the point's block in the accumulation phase, the one block of
    each vector at every point, and the output's of the point's block in the normalization phase. -/
theorem block_index : ∀ t : Fin cfg0.N, win0_0.index t = ![min t.val 9, 0] ∧ win0_1.index t = ![t.val % 10, 0, 0] ∧ win0_2.index t = ![0, 0]
    ∧ win0_3.index t = ![0, 0] ∧ win0_4.index t = ![0, 0] ∧ win0_5.index t = ![t.val - 10, 0] :=
  (by decide +kernel : ∀ t : Fin grid0.N, _)

/-- Row `r` of block `j` of the rows is row `5000 j + r` of the argument. -/
theorem rowsAt_entry (j : Fin 10) (r : Fin 5000) (k : Fin 256) :
    rowsAt m c j (ix2 r k) = m ((c : Thread nD τ).loc main_arg0) (ix2 ⟨5000 * j.val + r.val, by omega⟩ k) := by
  have hj : (pt j.val).val = j.val := Nat.mod_eq_of_lt (by omega)
  have := j.isLt
  unfold rowsAt
  blk_ext [iblk, V, block_index (pt j.val), hj]

/-- Id `r` of block `j` of the ids is id `5000 j + r` of the argument. -/
theorem idsAt_entry (j : Fin 10) (r : Fin 5000) :
    idsAt m c j (ix3 0 0 r) = m ((c : Thread nD τ).loc main_arg1) (ix1 ⟨5000 * j.val + r.val, by omega⟩) := by
  have hj : (pt j.val).val = j.val := Nat.mod_eq_of_lt (by omega)
  have := j.isLt
  unfold idsAt
  blk_simp [iblk, block_index (pt j.val), hj]
  entry_read
  pointwise
  blk_ext [block_index (pt j.val), hj]

/-- The block of the mean's scale is that argument as one row. -/
theorem alphaAt_entry (k : Fin 256) : iblk m c 2 (pt 10) (ix2 0 k) = m ((c : Thread nD τ).loc main_arg2) (ix1 k) := by
  blk_simp [iblk, block_index (pt 10)]
  entry_read
  pointwise
  blk_ext [block_index (pt 10)]

/-- The block of the weight is the weight as one row. -/
theorem weightAt_entry (k : Fin 256) : iblk m c 3 (pt 10) (ix2 0 k) = m ((c : Thread nD τ).loc main_arg3) (ix1 k) := by
  blk_simp [iblk, block_index (pt 10)]
  entry_read
  pointwise
  blk_ext [block_index (pt 10)]

/-- The block of the bias is the bias as one row. -/
theorem biasAt_entry (k : Fin 256) : iblk m c 4 (pt 10) (ix2 0 k) = m ((c : Thread nD τ).loc main_arg4) (ix1 k) := by
  blk_simp [iblk, block_index (pt 10)]
  entry_read
  pointwise
  blk_ext [block_index (pt 10)]

end Cert.KernelIdeal.Norm

end
-- ==== Proof.Value.Sums.lean ====
/- The three sums the accumulation phase leaves, at an entry: the sum over a segment's rows, over their squares, and the number
   of them; and from these the scale and the shift the table holds. -/
module

public import proofs.«01_k».proof.Proof.Value.Entries
public import proofs.«01_k».proof.Proof.Value.Blocks

@[expose] public section

set_option maxRecDepth 16384

noncomputable section

namespace Cert.KernelIdeal.Norm

open Idealize.ShloMosaic Idealize.ShloMosaic.TcCoe Idealize.SL.Sem
open Cert.Norm Cert.KernelIdeal.Gen

variable (m : (ℓ : Loc nD τ sig) → Buf (Elt Ideal) ℓ) (c : Dev nD)

/-- Column `k` of the rows, as the argument holds them. -/
def column (k : Fin 256) (r : Fin 50000) : EReal := m ((c : Thread nD τ).loc main_arg0) (ix2 r k)
/-- The segment ids, as the argument holds them. -/
def ids (r : Fin 50000) : BitVec 32 := m ((c : Thread nD τ).loc main_arg1) (ix1 r)

/-- The sums after block `n`, block by block. -/
theorem sums_blocks (g : Fin 64) (k : Fin 256) (n : ℕ) :
    sums m c n (ix2 g k) = ∑ j ∈ Finset.range (n + 1), ∑ r : Fin 5000, hot (idsAt m c j) r g * rowsAt m c j (ix2 r k) := by
  induction n with
  | zero => rw [Finset.sum_range_one]; exact (first_sum _ _ g k).trans (block_sum _ _ g k)
  | succ n ih => rw [Finset.sum_range_succ, ← ih]; exact (next_sum _ _ _ g k).trans (congrArg _ (block_sum _ _ g k))
/-- The sums of squares after block `n`, block by block. -/
theorem squares_blocks (g : Fin 64) (k : Fin 256) (n : ℕ) :
    squares m c n (ix2 g k)
      = ∑ j ∈ Finset.range (n + 1), ∑ r : Fin 5000, hot (idsAt m c j) r g * (rowsAt m c j (ix2 r k) * rowsAt m c j (ix2 r k)) := by
  induction n with
  | zero => rw [Finset.sum_range_one]; exact (first_square _ _ g k).trans (block_square _ _ g k)
  | succ n ih => rw [Finset.sum_range_succ, ← ih]; exact (next_square _ _ _ g k).trans (congrArg _ (block_square _ _ g k))
/-- The numbers of rows after block `n`, block by block. -/
theorem counts_blocks (g : Fin 64) (n : ℕ) :
    counts m c n (ix2 0 g) = ∑ j ∈ Finset.range (n + 1), ∑ r : Fin 5000, hot (idsAt m c j) r g := by
  induction n with
  | zero => rw [Finset.sum_range_one]; exact (first_count _ g).trans (block_count _ g)
  | succ n ih => rw [Finset.sum_range_succ, ← ih]; exact (next_count _ _ g).trans (congrArg _ (block_count _ g))

/-- Row `r` of block `j` is in segment `g` when row `5000 j + r` is. -/
theorem hot_block (j : Fin 10) (r : Fin 5000) (g : Fin 64) :
    hot (idsAt m c j) r g = if ids m c ⟨5000 * j.val + r.val, by omega⟩ = BitVec.ofNat 32 g.val then 1 else 0 := by
  unfold hot ids
  rw [idsAt_entry]

/-- A sum over the ten blocks of terms of the segment's rows is the sum over the segment. -/
theorem segment_sum (g : Fin 64) (f : Fin 50000 → EReal) (t : ℕ → Fin 5000 → EReal)
    (ht : ∀ (j : Fin 10) r, t j r = hot (idsAt m c j) r g * f ⟨5000 * j.val + r.val, by omega⟩) :
    ∑ j ∈ Finset.range 10, ∑ r : Fin 5000, t j r = ∑ r ∈ rowsOf (ids m c) g.val, f r := by
  rw [← sum_hot, ← blocks_sum, Finset.sum_range]
  exact Finset.sum_congr rfl fun j _ => Finset.sum_congr rfl fun r _ => (ht j r).trans (congrArg (· * _) (hot_block m c j r g))

/-- The sums over all rows, by segment. -/
theorem sums_entry (g : Fin 64) (k : Fin 256) : sums m c 9 (ix2 g k) = ∑ r ∈ rowsOf (ids m c) g.val, column m c k r :=
  (sums_blocks m c g k 9).trans (segment_sum m c g (column m c k) _ fun j r => congrArg (_ * ·) (rowsAt_entry m c j r k))
/-- The sums of squares over all rows, by segment. -/
theorem squares_entry (g : Fin 64) (k : Fin 256) :
    squares m c 9 (ix2 g k) = ∑ r ∈ rowsOf (ids m c) g.val, column m c k r * column m c k r :=
  (squares_blocks m c g k 9).trans (segment_sum m c g (fun r => column m c k r * column m c k r) _ fun j r => by rw [rowsAt_entry]; rfl)
/-- The number of rows of each segment. -/
theorem counts_entry (g : Fin 64) : counts m c 9 (ix2 0 g) = ∑ _r ∈ rowsOf (ids m c) g.val, 1 :=
  (counts_blocks m c g 9).trans (segment_sum m c g (fun _ => 1) _ fun j r => (mul_one _).symm)

/-- A table of two halves read in its left half. -/
theorem halves_left {α : Type} (X : S64x512.Idx → α) (w w' : S64x256.Idx → α) (g : Fin 64) (k : Fin 256) :
    VecWindow.put (VecWindow.put X ![0, 0] S64x256.size w) ![0, 256] S64x256.size w' (ix2 g ⟨k.val, by omega⟩) = w (ix2 g k) := by
  have h := congrFun (VecWindow.window_put_of_disjoint (VecWindow.put X ![0, 0] S64x256.size w)
    ![0, 256] S64x256.size ![0, 0] S64x256.size (by decide) w' 1 (Or.inl (by decide))) (ix2 g k)
  rw [VecWindow.window_put_same] at h
  refine Eq.trans (congrArg _ (funext fun a => Fin.ext ?_)) h
  match a with
  | ⟨0, _⟩ => show g.val = 0 + 1 * g.val; omega
  | ⟨1, _⟩ => show k.val = 0 + 1 * k.val; omega
/-- The same table read in its right half. -/
theorem halves_right {α : Type} (X : S64x512.Idx → α) (w w' : S64x256.Idx → α) (g : Fin 64) (k : Fin 256) :
    VecWindow.put (VecWindow.put X ![0, 0] S64x256.size w) ![0, 256] S64x256.size w' (ix2 g ⟨256 + k.val, by omega⟩) = w' (ix2 g k) := by
  have h := congrFun (VecWindow.window_put_same (VecWindow.put X ![0, 0] S64x256.size w) ![0, 256] S64x256.size (by decide) w') (ix2 g k)
  refine Eq.trans (congrArg _ (funext fun a => Fin.ext ?_)) h
  match a with
  | ⟨0, _⟩ => show g.val = 0 + 1 * g.val; omega
  | ⟨1, _⟩ => show 256 + k.val = 256 + 1 * k.val; omega

section Table
variable (x2 x3 x4 : Vec Ideal S1x256 .f32) (d10 d11 : Vec Ideal S64x256 .f32) (d12 : Vec Ideal S1x64 .f32) (g : Fin 64) (k : Fin 256)

/-- The left half of the table holds the scales. -/
theorem table_left : table x2 x3 x4 d10 d11 d12 (ix2 g ⟨k.val, by omega⟩) = k0_pay20 d12 d10 d11 x2 x3 (ix2 g k) :=
  halves_left _ _ _ g k
/-- The right half of the table holds the shifts. -/
theorem table_right : table x2 x3 x4 d10 d11 d12 (ix2 g ⟨256 + k.val, by omega⟩)
    = k0_pay14 (k0_pay19 d12 d10 d11 x2 x3) (k0_pay21 x4) (k0_pay22 d12 d10 x2) (ix2 g k) :=
  halves_right _ _ _ g k

end Table

/-- The scale of segment `g` in column `k`, from the segment's rows. -/
def segScale (g : Fin 64) (k : Fin 256) : EReal :=
  scale (∑ _r ∈ rowsOf (ids m c) g.val, 1) (∑ r ∈ rowsOf (ids m c) g.val, column m c k r) (∑ r ∈ rowsOf (ids m c) g.val, column m c k r * column m c k r)
    (m ((c : Thread nD τ).loc main_arg2) (ix1 k)) (m ((c : Thread nD τ).loc main_arg3) (ix1 k))
/-- The shift of segment `g` in column `k`, from the segment's rows. -/
def segShift (g : Fin 64) (k : Fin 256) : EReal :=
  shift (∑ _r ∈ rowsOf (ids m c) g.val, 1) (∑ r ∈ rowsOf (ids m c) g.val, column m c k r) (∑ r ∈ rowsOf (ids m c) g.val, column m c k r * column m c k r)
    (m ((c : Thread nD τ).loc main_arg2) (ix1 k)) (m ((c : Thread nD τ).loc main_arg3) (ix1 k)) (m ((c : Thread nD τ).loc main_arg4) (ix1 k))

/-- The table over all ten blocks holds the segments' scales in its left half. -/
theorem scaleShift_left (g : Fin 64) (k : Fin 256) : scaleShift m c (ix2 g ⟨k.val, by omega⟩) = segScale m c g k := by
  unfold scaleShift segScale
  rw [table_left, scale_stored, scale_entry, sums_entry, squares_entry, counts_entry, alphaAt_entry, weightAt_entry]
/-- And their shifts in its right half. -/
theorem scaleShift_right (g : Fin 64) (k : Fin 256) : scaleShift m c (ix2 g ⟨256 + k.val, by omega⟩) = segShift m c g k := by
  unfold scaleShift segShift
  rw [table_right, shift_entry, sums_entry, squares_entry, counts_entry, alphaAt_entry, weightAt_entry, biasAt_entry]

/-- Row `r` of block `j` of the result, its id being `g`: the row times its segment's scale plus its segment's shift. -/
theorem outAt_entry (j : Fin 10) (r : Fin 5000) (k : Fin 256) (g : Fin 64) (h : ids m c ⟨5000 * j.val + r.val, by omega⟩ = BitVec.ofNat 32 g.val) :
    outAt m c j (ix2 r k) = column m c k ⟨5000 * j.val + r.val, by omega⟩ * segScale m c g k + segShift m c g k := by
  unfold outAt
  rw [out_entry, rowsAt_entry]
  simp only [hot_block, h, scaleShift_left, scaleShift_right]
  rw [pick_hot (fun i => segScale m c i k), pick_hot (fun i => segShift m c i k)]
  rfl

end Cert.KernelIdeal.Norm

end
-- ==== Proof.Value.Final.lean ====
/- The kernel's result array: the ten blocks of the normalization phase, one after the other. -/
module

public import proofs.«01_k».proof.Proof.Value.Sums

@[expose] public section

set_option maxRecDepth 16384

noncomputable section

namespace Cert.KernelIdeal.Norm

open Idealize.ShloMosaic Idealize.ShloMosaic.TcCoe Idealize.SL.Sem
open Cert.Norm Cert.KernelIdeal.Gen

variable (m : (ℓ : Loc nD τ sig) → Buf (Elt Ideal) ℓ) (c : Dev nD)

/-- The result ends as any array whose rows `5000 j` to `5000 j + 4999` are block `j` of the normalization phase. -/
theorem final (G : Buf (Elt Ideal) ((c.tc : Thread nD τ).loc main_v0))
    (hG : ∀ (j : Fin 10) (r : Fin 5000) (k : Fin 256), outAt m c j (ix2 r k) = G (ix2 ⟨5000 * j.val + r.val, by omega⟩ k)) :
    (dats m 0 c).arrAt 5 cfg0.N = G := by
  refine (dats m 0 c).arrAt_eq_of_covers 5 _ (by decide +kernel) fun t hf y => ?_
  have hN : t.val < 20 := lt_of_lt_of_eq t.isLt N_0
  have ht : 10 ≤ t.val := by
    by_contra h
    rw [no_flush t (by omega)] at hf
    exact absurd hf (by decide)
  blk_simp
  rw [after_5]
  refine (congrArg _ (eq_ix2 y)).trans ((hG ⟨t.val - 10, by omega⟩ (y 0) (y 1)).trans (congrArg G ?_))
  blk_ext [block_index t]

end Cert.KernelIdeal.Norm

end
-- ==== Proof.Value.Scatter.lean ====
/- The reference's accumulating scatters and its row gathers read at an entry: a scatter's entry is the sum of the updates
   whose index names its row, a gather's is the entry of the row its index names. -/
module

public import proofs.«01_k».proof.Proof.Gen.ReferenceIdeal
public import proofs.«01_k».proof.Proof.Value.Algebra
public import Idealize.ShloMosaic.Lib.Routing.Ops
public import Idealize.ShloMosaic.Lib.Routing.OpsPair
public import Idealize.ShloMosaic.Lib.Pipeline.ValueKit
public import Idealize.ShloMosaic.Lib.IdealHost

@[expose] public section

set_option maxRecDepth 16384

noncomputable section

namespace Cert.ReferenceIdeal.Norm

open Idealize.ShloMosaic Cert.Norm Cert.ReferenceIdeal Cert.ReferenceIdeal.Gen

/-- A small number is what a word reads signed exactly when the word is that number's. -/
theorem toInt_eq_iff (v : BitVec 32) {g : ℕ} (hg : g < 2 ^ 31) : v.toInt = (g : ℤ) ↔ v = BitVec.ofNat 32 g := by
  constructor
  · intro h
    apply BitVec.eq_of_toInt_eq
    rw [h, StableHlo.Predicate.toInt_ofNat_small _ hg]
  · rintro rfl
    exact StableHlo.Predicate.toInt_ofNat_small _ hg

/-- Update `(r, k)` of the row scatter lands at `(g, c)` exactly when its row's index word is `g` and its column is `c`. -/
theorem row_lands (idx : IVec S50000x1 32) (r : Fin 50000) (k c : Fin 256) (g : Fin 64) :
    scatter_S64x256_S50000x1_S50000x256_1_0_0_1.resultIdx? (ix2 r k) idx = some (ix2 g c) ↔ idx (ix2 r 0) = BitVec.ofNat 32 g.val ∧ k = c := by
  have h0 : scatter_S64x256_S50000x1_S50000x256_1_0_0_1.start (ix2 r k) idx 0 = (idx (ix2 r 0)).toInt := by
    refine congrArg (fun j => (idx j).toInt) (funext fun b => ?_)
    match b with
    | ⟨0, _⟩ => rfl
    | ⟨1, _⟩ => rfl
  have h1 : scatter_S64x256_S50000x1_S50000x256_1_0_0_1.start (ix2 r k) idx 1 = 0 := rfl
  have w0 : scatter_S64x256_S50000x1_S50000x256_1_0_0_1.window (ix2 r k) 0 = 0 := rfl
  have w1 : scatter_S64x256_S50000x1_S50000x256_1_0_0_1.window (ix2 r k) 1 = k.val := rfl
  refine (Routing.resultIdx?_ix2 _ _ _ g c).trans ?_
  rw [h0, h1, w0, w1, ← toInt_eq_iff _ (lt_trans g.isLt (by decide)), Fin.ext_iff]
  constructor <;> rintro ⟨h, h'⟩ <;> constructor <;> omega

/-- Update `r` of the counting scatter lands at `g` exactly when its row's index word is `g`. -/
theorem count_lands (idx : IVec S50000x1 32) (r : Fin 50000) (g : Fin 64) :
    scatter_S64_S50000x1_S50000_n_0_0_1.resultIdx? (ix1 r) idx = some (ix1 g) ↔ idx (ix2 r 0) = BitVec.ofNat 32 g.val := by
  have h0 : scatter_S64_S50000x1_S50000_n_0_0_1.start (ix1 r) idx 0 = (idx (ix2 r 0)).toInt := by
    refine congrArg (fun j => (idx j).toInt) (funext fun b => ?_)
    match b with
    | ⟨0, _⟩ => rfl
    | ⟨1, _⟩ => rfl
  have w0 : scatter_S64_S50000x1_S50000_n_0_0_1.window (ix1 r) 0 = 0 := rfl
  refine (Routing.resultIdx?_ix1 _ _ _ g).trans ?_
  rw [h0, w0, ← toInt_eq_iff _ (lt_trans g.isLt (by decide))]
  constructor <;> intro h <;> omega

/-- The row scatter at `(g, c)`: the operand's entry plus column `c` of the updates of segment `g`. -/
theorem row_scatter_entry (x : FVec Ideal S64x256 .f32) (idx : IVec S50000x1 32) (upd : FVec Ideal S50000x256 .f32) (g : Fin 64) (c : Fin 256) :
    Host.scatterAdd scatter_S64x256_S50000x1_S50000x256_1_0_0_1 x idx upd (ix2 g c)
      = x (ix2 g c) + ∑ r ∈ rowsOf (fun r => idx (ix2 r 0)) g.val, upd (ix2 r c) := by
  refine congrArg (x (ix2 g c) + ·) ?_
  refine Finset.sum_nbij' (fun j => j 0) (fun r => ix2 r c) ?_ ?_ ?_ ?_ ?_
  · intro j hj
    have h := (Finset.mem_filter.1 hj).2
    rw [eq_ix2 j] at h
    exact Finset.mem_filter.2 ⟨Finset.mem_univ _, ((row_lands idx _ _ c g).1 h).1⟩
  · intro r hr
    exact Finset.mem_filter.2 ⟨Finset.mem_univ _, (row_lands idx r c c g).2 ⟨(Finset.mem_filter.1 hr).2, rfl⟩⟩
  · intro j hj
    have h := (Finset.mem_filter.1 hj).2
    rw [eq_ix2 j] at h
    have h' := ((row_lands idx _ _ c g).1 h).2
    rw [← h']
    exact (eq_ix2 j).symm
  · intro r _; rfl
  · intro j hj
    have h := (Finset.mem_filter.1 hj).2
    rw [eq_ix2 j] at h
    have h' := ((row_lands idx _ _ c g).1 h).2
    rw [← h']
    exact congrArg upd (eq_ix2 j)

/-- The counting scatter at `g`: the operand's entry plus the updates of segment `g`. -/
theorem count_scatter_entry (x : FVec Ideal S64 .f32) (idx : IVec S50000x1 32) (upd : FVec Ideal S50000 .f32) (g : Fin 64) :
    Host.scatterAdd scatter_S64_S50000x1_S50000_n_0_0_1 x idx upd (ix1 g)
      = x (ix1 g) + ∑ r ∈ rowsOf (fun r => idx (ix2 r 0)) g.val, upd (ix1 r) := by
  refine congrArg (x (ix1 g) + ·) ?_
  refine Finset.sum_nbij' (fun j => j 0) (fun r => ix1 r) ?_ ?_ ?_ ?_ ?_
  · intro j hj
    have h := (Finset.mem_filter.1 hj).2
    rw [eq_ix1 j] at h
    exact Finset.mem_filter.2 ⟨Finset.mem_univ _, (count_lands idx _ g).1 h⟩
  · intro r hr
    exact Finset.mem_filter.2 ⟨Finset.mem_univ _, (count_lands idx r g).2 (Finset.mem_filter.1 hr).2⟩
  · intro j _; exact (eq_ix1 j).symm
  · intro r _; rfl
  · intro j _; exact congrArg upd (eq_ix1 j)

/-- The row gather at `(r, c)`: the table's entry of the row the index word names. -/
theorem row_gather_entry (x : FVec Ideal S64x256 .f32) (idx : IVec S50000x1 32) (r : Fin 50000) (c : Fin 256) (g : Fin 64)
    (h : idx (ix2 r 0) = BitVec.ofNat 32 g.val) :
    Host.gather gather_S64x256_S50000x1_S50000x256_1_0_n_n_0_1_1256 x idx (ix2 r c) = x (ix2 g c) :=
  Routing.gather_row _ rfl rfl rfl rfl rfl x idx r c g h (by decide)

end Cert.ReferenceIdeal.Norm
end
-- ==== Proof.Value.Reference.lean ====
/- The reference's result at an entry: the row's entry normalized over the rows of its segment. -/
module

public import proofs.«01_k».proof.Proof.Gen.ReferenceIdeal.Run
public import proofs.«01_k».proof.Proof.Value.Scatter

@[expose] public section

set_option maxRecDepth 16384

noncomputable section

namespace Cert.ReferenceIdeal.Norm

open Idealize.ShloMosaic Idealize.ShloMosaic.TcCoe Cert.Norm Cert.ReferenceIdeal Cert.ReferenceIdeal.Gen

/-- A number below 64 as a word is not negative. -/
theorem not_negative : ∀ g : Fin 64, IntOp.cmpi .slt (BitVec.ofNat 32 g.val) 0#32 = 0#1 := by decide

/-- The index the reference's gather takes row `r` by is the row's segment id itself, as that is not negative. -/
theorem wrapped_index (ids : IVec S50000 32) (r : Fin 50000) (g : Fin 64) (h : ids (ix1 r) = BitVec.ofNat 32 g.val) :
    broadcastInDim S50000x1 ![0] bcast_S50000_S50000x1_0 (select (cmpi .slt ids (broadcastInDim S50000 ![] bcast_S_S50000 (constantI S_ 32 0#32)))
      (addi ids (broadcastInDim S50000 ![] bcast_S_S50000 (constantI S_ 32 64#32))) ids) (ix2 r 0) = BitVec.ofNat 32 g.val := by
  pointwise
  rw [h, not_negative]
  rfl

/-- The reference's result at row `r` and column `k`, the row's id being `g`: column `k` normalized over segment `g`. -/
theorem ref_entry (m : (ℓ : Loc nD τ sig) → Buf (Elt Ideal) ℓ) (c : Dev nD) (r : Fin 50000) (k : Fin 256)
    (g : Fin 64) (h : m ((c : Thread nD τ).loc main_arg1) (ix1 r) = BitVec.ofNat 32 g.val) :
    Value.res_main_v45 m c (ix2 r k)
      = centred (rowsOf (fun r => m ((c : Thread nD τ).loc main_arg1) (ix1 r)) g.val) (fun r => m ((c : Thread nD τ).loc main_arg0) (ix2 r k))
          (m ((c : Thread nD τ).loc main_arg2) (ix1 k)) (m ((c : Thread nD τ).loc main_arg3) (ix1 k)) (m ((c : Thread nD τ).loc main_arg4) (ix1 k)) r := by
  pointwise [Value.res_main_v45]
  rw [row_gather_entry _ _ r k g (wrapped_index _ r g h)]
  rw [row_gather_entry _ _ r k g (wrapped_index _ r g h)]
  pointwise
  rw [row_scatter_entry, row_scatter_entry, count_scatter_entry]
  pointwise
  refine centred_of_squares _ (fun r => m ((c : Thread nD τ).loc main_arg0) (ix2 r k)) _ _ _ r _ fun x hx => ?_
  rw [row_gather_entry _ _ x k g (wrapped_index _ x g (Finset.mem_filter.1 hx).2)]
  pointwise
  rw [row_scatter_entry, count_scatter_entry]
  pointwise
  rfl

end Cert.ReferenceIdeal.Norm

end
-- ==== Proof.Value.Precondition.lean ====
/- The precondition read at an entry: the rows and the weight are finite, and every segment id is a number below 64. -/
module

public import proofs.«01_k».proof.Pre_finite_and_in_range
public import Idealize.ShloMosaic.Lib.Pipeline.ValueKit
public import Idealize.ShloMosaic.Lib.IdealHost

@[expose] public section

set_option maxRecDepth 16384

noncomputable section

namespace Cert.Pre_finite_and_in_range

open Idealize.ShloMosaic

/-- The shapes the predicate broadcasts between are as it needs them. -/
theorem facts : Facts := ⟨by decide, by decide, by decide, by decide, by decide, by decide, by decide⟩

/-- A number whose absolute value compares below infinity is real. -/
theorem real_of_lt (x : EReal) (h : BitVec.ofBool (decide (max x (-x) < Ideal.ofBits .f32 0x7F800000#32)) = 1#1) : ∃ y : ℝ, x = y := by
  have htop : Ideal.ofBits .f32 0x7F800000#32 = ⊤ := by simp [Ideal.ofBits, Ideal.ieee]
  rw [htop] at h
  induction x using EReal.rec with
  | bot => simp at h
  | coe y => exact ⟨y, rfl⟩
  | top => simp at h

/-- A decided truth that is the word one holds. -/
theorem of_ofBool {p : Bool} (h : BitVec.ofBool p = 1#1) : p = true := by
  revert p; decide

/-- A word between zero and 64, compared signed, is the word of a number below 64. -/
theorem below_64 (v : BitVec 32) (h0 : IntOp.cmpi .sge v 0#32 = 1#1) (h1 : IntOp.cmpi .slt v 64#32 = 1#1) : ∃ g : Fin 64, v = BitVec.ofNat 32 g.val := by
  have h0' : (0#32).sle v = true := of_ofBool h0
  have h1' : v.slt 64#32 = true := of_ofBool h1
  rw [BitVec.sle_iff_toInt_le] at h0'
  rw [BitVec.slt_iff_toInt_lt] at h1'
  have e0 : (0#32).toInt = 0 := by decide
  have e1 : (64#32).toInt = 64 := by decide
  rw [e0] at h0'
  rw [e1] at h1'
  have hv : v.toNat < 64 := by
    rw [BitVec.toInt_eq_toNat_cond] at h0' h1'
    split at h0' <;> omega
  exact ⟨⟨v.toNat, hv⟩, (BitVec.ofNat_toNat 32 v).symm ▸ (BitVec.setWidth_eq v).symm⟩

/-- One bit and another is one only when both are. -/
theorem and_one (p q : BitVec 1) (h : IntOp.andi p q = 1#1) : p = 1#1 ∧ q = 1#1 := by
  revert p q; decide

/-- What the precondition says at row `r` and column `k`. -/
theorem at_entry [Facts] (x : FVec Ideal S50000x256 .f32) (b : IVec S50000 32) (a w bias : FVec Ideal S256 .f32) (h : fn (F := Ideal) x b a w bias = fun _ => 1#1)
    (r : Fin 50000) (k : Fin 256) :
    (∃ y : ℝ, x (ix2 r k) = (y : EReal)) ∧ (∃ v : ℝ, w (ix1 k) = (v : EReal)) ∧ ∃ g : Fin 64, b (ix1 r) = BitVec.ofNat 32 g.val := by
  have e := congrFun h (ix2 r k)
  revert e
  unfold fn
  pointwise
  intro e
  obtain ⟨hf, hb⟩ := and_one _ _ e
  obtain ⟨hx, hw⟩ := and_one _ _ hf
  obtain ⟨h0, h1⟩ := and_one _ _ hb
  exact ⟨real_of_lt _ hx, real_of_lt _ hw, below_64 _ h0 h1⟩

end Cert.Pre_finite_and_in_range

end
-- ==== Proof.Value.Agreement.lean ====
/- The kernel's result is the reference's, under the precondition: entry by entry both are the row's entry normalized over its
   segment, and the two programs run to it from memories that agree on the arguments. -/
module

public import proofs.«01_k».proof.Defs
public import proofs.«01_k».proof.Proof.Value.Final
public import proofs.«01_k».proof.Proof.Value.Reference
public import proofs.«01_k».proof.Proof.Value.Precondition

@[expose] public section

set_option maxRecDepth 16384

noncomputable section

namespace Cert.Agreement

open Idealize.ShloMosaic Idealize.ShloMosaic.TcCoe Idealize.SL.Sem
open Cert.Norm

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same five arguments at device `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-- Under the precondition the blocks the kernel's normalization phase writes are the reference's result, block by block. -/
theorem block_eq [Cert.Pre_finite_and_in_range.Facts] (hp : Cert.Pre_KernelIdeal_finite_and_in_range m)
    (c : Dev Cert.KernelIdeal.nD) (ha : Agree m m' c) (j : Fin 10) (r : Fin 5000) (k : Fin 256) :
    Cert.KernelIdeal.Norm.outAt m c j (ix2 r k)
      = Cert.ReferenceIdeal.Value.res_main_v45 m' c (ix2 ⟨5000 * j.val + r.val, by omega⟩ k) := by
  have hrow := fun i => Cert.Pre_finite_and_in_range.at_entry _ _ _ _ _ (hp c) i k
  obtain ⟨-, hw, g, hg⟩ := hrow ⟨5000 * j.val + r.val, by omega⟩
  obtain ⟨a0, a1, a2, a3, a4⟩ := ha
  rw [Cert.KernelIdeal.Norm.outAt_entry m c j r k g hg, Cert.ReferenceIdeal.Norm.ref_entry m' c _ k g (by rw [a1]; exact hg), a0, a1, a2, a3, a4]
  exact agree ⟨_, Finset.mem_filter.2 ⟨Finset.mem_univ _, hg⟩⟩ _ (fun i => (hrow i).1) _ hw _ _

/-- Under the precondition both programs run, end with the same result and leave their arguments unchanged. -/
theorem algebraic (hPre : Cert.Pre_finite_and_in_range.Facts) :
    Cert.algebraic_KernelIdeal_ReferenceIdeal_pre_finite_and_in_range (hKernelIdeal := Cert.KernelIdeal.Gen.facts) (hReferenceIdeal := Cert.ReferenceIdeal.Gen.facts)
      (hPre_finite_and_in_range := hPre) := by
  intro m ρ m' ρ' hp ha
  have hfinal := fun c => Cert.KernelIdeal.Norm.final m c (Cert.ReferenceIdeal.Value.res_main_v45 m' c) (block_eq m m' hp c (ha c))
  refine ⟨fun c => Cert.ReferenceIdeal.Value.res_main_v45 m' c, ?_, Cert.ReferenceIdeal.Value.run m' ρ'⟩
  refine (θ_run Cert.KernelIdeal.defs _ _).mono (fun r h c => ?_)
    (θ_run_and (Cert.KernelIdeal.Norm.run_main_quiescent m ρ) (Cert.KernelIdeal.Norm.frame_claim m ρ))
  exact ⟨((h.1.1 c).1 5).trans (hfinal c), h.2.1 c⟩

end Cert.Agreement

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Region
public import proofs.«01_k».proof.Proof.Kernel.Printed
public import proofs.«01_k».proof.Proof.Value.Agreement
public import Idealize.ShloMosaic.Adequacy
public import Idealize.ShloMosaic.Init

@[expose] public section

noncomputable section

namespace Cert.Proof

open Idealize.ShloMosaic Idealize.SL.Sem

/-- The kernel as printed runs, leaves its arguments unchanged and its counters at zero. -/
theorem frame_kernel : Cert.quiescent_Kernel := Cert.KernelIdeal.Norm.frame_printed

/-- So does its idealization. -/
theorem frame_kernelIdeal : Cert.quiescent_KernelIdeal := fun m ρ _ => Cert.KernelIdeal.Norm.frame_claim m ρ

/-- So does the reference, which has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Everything claimed, with the shape conditions the programs state. -/
theorem claim : Cert.Claim :=
  ⟨Cert.Kernel.Gen.facts, Cert.KernelIdeal.Gen.facts, Cert.ReferenceIdeal.Gen.facts, Cert.Pre_finite_and_in_range.facts,
    frame_kernel, frame_kernelIdeal, fun m ρ _ => frame_kernelIdeal m ρ trivial, frame_referenceIdeal, fun m ρ _ => frame_referenceIdeal m ρ trivial,
    trivial, Cert.Agreement.algebraic _⟩

end Cert.Proof

end
